-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v5)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v5) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v57) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def preserves_Mixer_MixerIdeal : Prop :=
  True

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts) (hMixer : Cert.Mixer.Facts) (hMixerIdeal : Cert.MixerIdeal.Facts),
    quiescent_Kernel (hKernel := hKernel)
    ∧ quiescent_KernelIdeal (hKernelIdeal := hKernelIdeal)
    ∧ quiescent_ReferenceIdeal (hReferenceIdeal := hReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Mixer (hMixer := hMixer)
    ∧ quiescent_MixerIdeal (hMixerIdeal := hMixerIdeal)
    ∧ preserves_Kernel_KernelIdeal
    ∧ algebraic_KernelIdeal_ReferenceIdeal (hKernelIdeal := hKernelIdeal) (hReferenceIdeal := hReferenceIdeal)
    ∧ preserves_First_FirstIdeal
    ∧ algebraic_FirstIdeal_FirstReferenceIdeal (hFirstIdeal := hFirstIdeal) (hFirstReferenceIdeal := hFirstReferenceIdeal)
    ∧ preserves_Mixer_MixerIdeal
-- ==== Kernel.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S8x768 : Shape := ⟨2, ![8, 768]⟩
abbrev S1x768 : Shape := ⟨2, ![1, 768]⟩
abbrev S504x768 : Shape := ⟨2, ![504, 768]⟩
abbrev S768x1024 : Shape := ⟨2, ![768, 1024]⟩
abbrev S1024x512 : Shape := ⟨2, ![1024, 512]⟩
abbrev S512x512 : Shape := ⟨2, ![512, 512]⟩
abbrev S8x512 : Shape := ⟨2, ![8, 512]⟩
abbrev S1x512 : Shape := ⟨2, ![1, 512]⟩
abbrev S504x512 : Shape := ⟨2, ![504, 512]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x5632, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩

abbrev nBuf : Space → Nat
  | .hbm => 91
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x5632, .f32⟩
  | .hbm, ⟨24, _⟩ => ⟨S_, .i32⟩
  | .hbm, ⟨25, _⟩ => ⟨S_, .f32⟩
  | .hbm, ⟨26, _⟩ => ⟨S16x4098x5632, .f32⟩
  | .hbm, ⟨27, _⟩ => ⟨S16x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S16x4096x5632, .f32⟩
  | .hbm, ⟨32, _⟩ => ⟨S16x4096x5632, .f32⟩
  | .hbm, ⟨33, _⟩ => ⟨S_, .f32⟩
  | .hbm, ⟨34, _⟩ => ⟨S16x4096x5632, .f32⟩
  | .hbm, ⟨35, _⟩ => ⟨S16x4096x5632, .f32⟩
  | .hbm, ⟨36, _⟩ => ⟨S16x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S16x4096x5632, .f32⟩
  | .hbm, ⟨41, _⟩ => ⟨S16x4096x5632, .f32⟩
  | .hbm, ⟨42, _⟩ => ⟨S16x4096x5632, .f32⟩
  | .hbm, ⟨43, _⟩ => ⟨S16x4096x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S16x4096x5632, .f32⟩
  | .hbm, ⟨48, _⟩ => ⟨S16x4096x5632, .f32⟩
  | .hbm, ⟨49, _⟩ => ⟨S16x4096x5632, .f32⟩
  | .hbm, ⟨50, _⟩ => ⟨S1x1x5632, .f32⟩
  | .hbm, ⟨51, _⟩ => ⟨S16x4096x5632, .f32⟩
  | .hbm, ⟨52, _⟩ => ⟨S16x4096x5632, .f32⟩
  | .hbm, ⟨53, _⟩ => ⟨S16x4096x2816, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S16x4096x2816, .f32⟩
  | .hbm, ⟨59, _⟩ => ⟨S16x4096x2816, .f32⟩
  | .hbm, ⟨60, _⟩ => ⟨S16x4096x2816, .f32⟩
  | .hbm, ⟨61, _⟩ => ⟨S_, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S_, .f32⟩
  | .hbm, ⟨66, _⟩ => ⟨S16x4096x2816, .f32⟩
  | .hbm, ⟨67, _⟩ => ⟨S16x4096x2816, .f32⟩
  | .hbm, ⟨68, _⟩ => ⟨S_, .f32⟩
  | .hbm, ⟨69, _⟩ => ⟨S16x4096x2816, .f32⟩
  | .hbm, ⟨70, _⟩ => ⟨S16x4096x2816, .f32⟩
  | .hbm, ⟨71, _⟩ => ⟨S16x4096x2816, .f32⟩
  | .hbm, ⟨72, _⟩ => ⟨S16x4096x2816, .f32⟩
  | .hbm, ⟨73, _⟩ => ⟨S16x4096x1024, .f32⟩
  | .hbm, ⟨74, _⟩ => ⟨S16x4096x1024, .f32⟩
  | .hbm, ⟨75, _⟩ => ⟨S16x4096x1024, .f32⟩
  | .hbm, ⟨76, _⟩ => ⟨S_, .f32⟩
  | .hbm, ⟨77, _⟩ => ⟨S16x4096, .f32⟩
  | .hbm, ⟨78, _⟩ => ⟨S16x4096x1, .f32⟩
  | .hbm, ⟨79, _⟩ => ⟨S_, .f32⟩
  | .hbm, ⟨80, _⟩ => ⟨S16x4096x1, .f32⟩
  | .hbm, ⟨81, _⟩ => ⟨S16x4096x1, .f32⟩
  | .hbm, ⟨82, _⟩ => ⟨S_, .f32⟩
  | .hbm, ⟨83, _⟩ => ⟨S16x4096x1, .f32⟩
  | .hbm, ⟨84, _⟩ => ⟨S16x4096x1, .f32⟩
  | .hbm, ⟨85, _⟩ => ⟨S16x4096x1, .f32⟩
  | .hbm, ⟨86, _⟩ => ⟨S16x4096x1024, .f32⟩
  | .hbm, ⟨87, _⟩ => ⟨S16x4096x1024, .f32⟩
  | .hbm, ⟨88, _⟩ => ⟨S1x1x1024, .f32⟩
  | .hbm, ⟨89, _⟩ => ⟨S16x4096x1024, .f32⟩
  | .hbm, ⟨90, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== First.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S8x768 : Shape := ⟨2, ![8, 768]⟩
abbrev S1x768 : Shape := ⟨2, ![1, 768]⟩
abbrev S504x768 : Shape := ⟨2, ![504, 768]⟩
abbrev S768x1024 : Shape := ⟨2, ![768, 1024]⟩
abbrev S1024x512 : Shape := ⟨2, ![1024, 512]⟩
abbrev S512x512 : Shape := ⟨2, ![512, 512]⟩
abbrev S8x512 : Shape := ⟨2, ![8, 512]⟩
abbrev S1x512 : Shape := ⟨2, ![1, 512]⟩
abbrev S504x512 : Shape := ⟨2, ![504, 512]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x5632, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FirstReferenceIdeal.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩

abbrev nBuf : Space → Nat
  | .hbm => 75
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x5632, .f32⟩
  | .hbm, ⟨24, _⟩ => ⟨S_, .i32⟩
  | .hbm, ⟨25, _⟩ => ⟨S_, .f32⟩
  | .hbm, ⟨26, _⟩ => ⟨S16x4098x5632, .f32⟩
  | .hbm, ⟨27, _⟩ => ⟨S16x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S16x4096x5632, .f32⟩
  | .hbm, ⟨32, _⟩ => ⟨S16x4096x5632, .f32⟩
  | .hbm, ⟨33, _⟩ => ⟨S_, .f32⟩
  | .hbm, ⟨34, _⟩ => ⟨S16x4096x5632, .f32⟩
  | .hbm, ⟨35, _⟩ => ⟨S16x4096x5632, .f32⟩
  | .hbm, ⟨36, _⟩ => ⟨S16x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S16x4096x5632, .f32⟩
  | .hbm, ⟨41, _⟩ => ⟨S16x4096x5632, .f32⟩
  | .hbm, ⟨42, _⟩ => ⟨S16x4096x5632, .f32⟩
  | .hbm, ⟨43, _⟩ => ⟨S16x4096x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S16x4096x5632, .f32⟩
  | .hbm, ⟨48, _⟩ => ⟨S16x4096x5632, .f32⟩
  | .hbm, ⟨49, _⟩ => ⟨S16x4096x5632, .f32⟩
  | .hbm, ⟨50, _⟩ => ⟨S1x1x5632, .f32⟩
  | .hbm, ⟨51, _⟩ => ⟨S16x4096x5632, .f32⟩
  | .hbm, ⟨52, _⟩ => ⟨S16x4096x5632, .f32⟩
  | .hbm, ⟨53, _⟩ => ⟨S16x4096x2816, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S16x4096x2816, .f32⟩
  | .hbm, ⟨59, _⟩ => ⟨S16x4096x2816, .f32⟩
  | .hbm, ⟨60, _⟩ => ⟨S16x4096x2816, .f32⟩
  | .hbm, ⟨61, _⟩ => ⟨S_, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S_, .f32⟩
  | .hbm, ⟨66, _⟩ => ⟨S16x4096x2816, .f32⟩
  | .hbm, ⟨67, _⟩ => ⟨S16x4096x2816, .f32⟩
  | .hbm, ⟨68, _⟩ => ⟨S_, .f32⟩
  | .hbm, ⟨69, _⟩ => ⟨S16x4096x2816, .f32⟩
  | .hbm, ⟨70, _⟩ => ⟨S16x4096x2816, .f32⟩
  | .hbm, ⟨71, _⟩ => ⟨S16x4096x2816, .f32⟩
  | .hbm, ⟨72, _⟩ => ⟨S16x4096x2816, .f32⟩
  | .hbm, ⟨73, _⟩ => ⟨S16x4096x1024, .f32⟩
  | .hbm, ⟨74, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Mixer.lean ====
abbrev S16x4096x1024 : Shape := ⟨3, ![16, 4096, 1024]⟩
abbrev S1024 : Shape := ⟨1, ![1024]⟩
abbrev S1024x3080 : Shape := ⟨2, ![1024, 3080]⟩
abbrev S4x1024 : Shape := ⟨2, ![4, 1024]⟩
abbrev S8 : Shape := ⟨1, ![8]⟩
abbrev S512 : Shape := ⟨1, ![512]⟩
abbrev S4x256 : Shape := ⟨2, ![4, 256]⟩
abbrev S256 : Shape := ⟨1, ![256]⟩
abbrev S4x64x64 : Shape := ⟨3, ![4, 64, 64]⟩
abbrev S1024x1024 : Shape := ⟨2, ![1024, 1024]⟩
abbrev S1024x256 : Shape := ⟨2, ![1024, 256]⟩
abbrev S_ : Shape := ⟨0, ![]⟩
abbrev S256x1 : Shape := ⟨2, ![256, 1]⟩
abbrev S1024x512 : Shape := ⟨2, ![1024, 512]⟩
abbrev S1024x8 : Shape := ⟨2, ![1024, 8]⟩
abbrev S512x1 : Shape := ⟨2, ![512, 1]⟩
abbrev S1024x3584 : Shape := ⟨2, ![1024, 3584]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S256x512 : Shape := ⟨2, ![256, 512]⟩
abbrev S1x512 : Shape := ⟨2, ![1, 512]⟩
abbrev S1x1024 : Shape := ⟨2, ![1, 1024]⟩
abbrev S1x256 : Shape := ⟨2, ![1, 256]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4 : Shape := ⟨1, ![4]⟩
abbrev S64 : Shape := ⟨1, ![64]⟩
abbrev S64x1 : Shape := ⟨2, ![64, 1]⟩
abbrev S1x64 : Shape := ⟨2, ![1, 64]⟩
abbrev S4x1x1 : Shape := ⟨3, ![4, 1, 1]⟩
abbrev S64x4x64 : Shape := ⟨3, ![64, 4, 64]⟩
abbrev S64x256 : Shape := ⟨2, ![64, 256]⟩
abbrev S4x1 : Shape := ⟨2, ![4, 1]⟩
abbrev S4x64 : Shape := ⟨2, ![4, 64]⟩
abbrev S64x4 : Shape := ⟨2, ![64, 4]⟩
abbrev S1x512x1024 : Shape := ⟨3, ![1, 512, 1024]⟩
abbrev S512x128 : Shape := ⟨2, ![512, 128]⟩
abbrev S2x128x256 : Shape := ⟨3, ![2, 128, 256]⟩
abbrev S8x256 : Shape := ⟨2, ![8, 256]⟩
abbrev S8x1024 : Shape := ⟨2, ![8, 1024]⟩
abbrev S512x1024 : Shape := ⟨2, ![512, 1024]⟩
abbrev S512x512 : Shape := ⟨2, ![512, 512]⟩
abbrev S504x1024 : Shape := ⟨2, ![504, 1024]⟩
abbrev S512x256 : Shape := ⟨2, ![512, 256]⟩
abbrev S504x256 : Shape := ⟨2, ![504, 256]⟩
abbrev S64x8x256 : Shape := ⟨3, ![64, 8, 256]⟩
abbrev S1x8x256 : Shape := ⟨3, ![1, 8, 256]⟩
abbrev S64x128 : Shape := ⟨2, ![64, 128]⟩
abbrev S256x128 : Shape := ⟨2, ![256, 128]⟩
abbrev S128x256 : Shape := ⟨2, ![128, 256]⟩
abbrev S1x128x256 : Shape := ⟨3, ![1, 128, 256]⟩
abbrev S64x512 : Shape := ⟨2, ![64, 512]⟩
abbrev S256x1024 : Shape := ⟨2, ![256, 1024]⟩

abbrev nBuf : Space → Nat
  | .hbm => 511
  | .vmem => 36
  | .smem => 0
  | _ => 0

abbrev hbmTy0_0 (i : Nat) : BufTy := match i % 128 with
  | 0 => ⟨S16x4096x1024, .f32⟩
  | 1 => ⟨S1024, .f32⟩
  | 2 => ⟨S1024x3080, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S4x256, .f32⟩
  | 10 => ⟨S256, .f32⟩
  | 11 => ⟨S4x64x64, .f32⟩
  | 12 => ⟨S256, .f32⟩
  | 13 => ⟨S4x64x64, .f32⟩
  | 14 => ⟨S256, .f32⟩
  | 15 => ⟨S256, .f32⟩
  | 16 => ⟨S1024x1024, .f32⟩
  | 17 => ⟨S256, .i32⟩
  | 18 => ⟨S256, .i1⟩
  | 19 => ⟨S256, .i1⟩
  | 20 => ⟨S512, .i32⟩
  | 21 => ⟨S512, .i1⟩
  | 22 => ⟨S512, .i1⟩
  | 23 => ⟨S512, .i1⟩
  | 24 => ⟨S512, .i1⟩
  | 25 => ⟨S256, .i32⟩
  | 26 => ⟨S256, .i1⟩
  | 27 => ⟨S256, .i1⟩
  | 28 => ⟨S256, .i32⟩
  | 29 => ⟨S256, .i1⟩
  | 30 => ⟨S1024x256, .f32⟩
  | 31 => ⟨S_, .i32⟩
  | 32 => ⟨S256, .i32⟩
  | 33 => ⟨S256, .i32⟩
  | 34 => ⟨S256, .i32⟩
  | 35 => ⟨S256x1, .i32⟩
  | 36 => ⟨S1024x256, .f32⟩
  | 37 => ⟨S1024x256, .f32⟩
  | 38 => ⟨S_, .i32⟩
  | 39 => ⟨S256, .i32⟩
  | 40 => ⟨S256, .i32⟩
  | 41 => ⟨S256, .i32⟩
  | 42 => ⟨S256x1, .i32⟩
  | 43 => ⟨S1024x256, .f32⟩
  | 44 => ⟨S1024x256, .f32⟩
  | 45 => ⟨S1024x256, .f32⟩
  | 46 => ⟨S1024x512, .f32⟩
  | 47 => ⟨S1024x1024, .f32⟩
  | 48 => ⟨S1024x8, .f32⟩
  | 49 => ⟨S_, .i32⟩
  | 50 => ⟨S512, .i32⟩
  | 51 => ⟨S512, .i32⟩
  | 52 => ⟨S512, .i32⟩
  | 53 => ⟨S512x1, .i32⟩
  | 54 => ⟨S1024x512, .f32⟩
  | 55 => ⟨S1024x256, .f32⟩
  | 56 => ⟨S1024x256, .f32⟩
  | 57 => ⟨S1024x3584, .f32⟩
  | 58 => ⟨S1024x3584, .bf16⟩
  | 59 => ⟨S_, .f32⟩
  | 60 => ⟨S256x256, .f32⟩
  | 61 => ⟨S1x64x64, .f32⟩
  | 62 => ⟨S64x64, .f32⟩
  | 63 => ⟨S_, .i32⟩
  | 64 => ⟨S1, .i32⟩
  | 65 => ⟨S_, .i32⟩
  | 66 => ⟨S1, .i32⟩
  | 67 => ⟨S2, .i32⟩
  | 68 => ⟨S256x256, .f32⟩
  | 69 => ⟨S1x64x64, .f32⟩
  | 70 => ⟨S64x64, .f32⟩
  | 71 => ⟨S_, .i32⟩
  | 72 => ⟨S1, .i32⟩
  | 73 => ⟨S_, .i32⟩
  | 74 => ⟨S1, .i32⟩
  | 75 => ⟨S2, .i32⟩
  | 76 => ⟨S256x256, .f32⟩
  | 77 => ⟨S1x64x64, .f32⟩
  | 78 => ⟨S64x64, .f32⟩
  | 79 => ⟨S_, .i32⟩
  | 80 => ⟨S1, .i32⟩
  | 81 => ⟨S_, .i32⟩
  | 82 => ⟨S1, .i32⟩
  | 83 => ⟨S2, .i32⟩
  | 84 => ⟨S256x256, .f32⟩
  | 85 => ⟨S1x64x64, .f32⟩
  | 86 => ⟨S64x64, .f32⟩
  | 87 => ⟨S_, .i32⟩
  | 88 => ⟨S1, .i32⟩
  | 89 => ⟨S_, .i32⟩
  | 90 => ⟨S1, .i32⟩
  | 91 => ⟨S2, .i32⟩
  | 92 => ⟨S256x256, .f32⟩
  | 93 => ⟨S_, .f32⟩
  | 94 => ⟨S256x256, .f32⟩
  | 95 => ⟨S1x64x64, .f32⟩
  | 96 => ⟨S64x64, .f32⟩
  | 97 => ⟨S_, .i32⟩
  | 98 => ⟨S1, .i32⟩
  | 99 => ⟨S_, .i32⟩
  | 100 => ⟨S1, .i32⟩
  | 101 => ⟨S2, .i32⟩
  | 102 => ⟨S256x256, .f32⟩
  | 103 => ⟨S1x64x64, .f32⟩
  | 104 => ⟨S64x64, .f32⟩
  | 105 => ⟨S_, .i32⟩
  | 106 => ⟨S1, .i32⟩
  | 107 => ⟨S_, .i32⟩
  | 108 => ⟨S1, .i32⟩
  | 109 => ⟨S2, .i32⟩
  | 110 => ⟨S256x256, .f32⟩
  | 111 => ⟨S1x64x64, .f32⟩
  | 112 => ⟨S64x64, .f32⟩
  | 113 => ⟨S_, .i32⟩
  | 114 => ⟨S1, .i32⟩
  | 115 => ⟨S_, .i32⟩
  | 116 => ⟨S1, .i32⟩
  | 117 => ⟨S2, .i32⟩
  | 118 => ⟨S256x256, .f32⟩
  | 119 => ⟨S1x64x64, .f32⟩
  | 120 => ⟨S64x64, .f32⟩
  | 121 => ⟨S_, .i32⟩
  | 122 => ⟨S1, .i32⟩
  | 123 => ⟨S_, .i32⟩
  | 124 => ⟨S1, .i32⟩
  | 125 => ⟨S2, .i32⟩
  | 126 => ⟨S256x256, .f32⟩
  | 127 => ⟨S256x512, .f32⟩
  | _ => ⟨S16x4096x1024, .f32⟩

abbrev hbmTy0_1 (i : Nat) : BufTy := match i % 128 with
  | 0 => ⟨S256x512, .bf16⟩
  | 1 => ⟨S512, .f32⟩
  | 2 => ⟨S1x512, .f32⟩
  | 3 => ⟨S1x1024, .f32⟩
  | 4 => ⟨S1x1024, .f32⟩
  | 5 => ⟨S_, .i32⟩
  | 6 => ⟨S512, .i32⟩
  | 7 => ⟨S512, .i32⟩
  | 8 => ⟨S512, .i32⟩
  | 9 => ⟨S512x1, .i32⟩
  | 10 => ⟨S512, .f32⟩
  | 11 => ⟨S1x512, .f32⟩
  | 12 => ⟨S_, .i32⟩
  | 13 => ⟨S512, .i32⟩
  | 14 => ⟨S512, .i32⟩
  | 15 => ⟨S512, .i32⟩
  | 16 => ⟨S512x1, .i32⟩
  | 17 => ⟨S512, .f32⟩
  | 18 => ⟨S1x512, .f32⟩
  | 19 => ⟨S_, .i32⟩
  | 20 => ⟨S512, .i32⟩
  | 21 => ⟨S512, .i32⟩
  | 22 => ⟨S512, .i32⟩
  | 23 => ⟨S512x1, .i32⟩
  | 24 => ⟨S512, .f32⟩
  | 25 => ⟨S1x512, .f32⟩
  | 26 => ⟨S1x512, .f32⟩
  | 27 => ⟨S1x256, .f32⟩
  | 28 => ⟨S1x256, .f32⟩
  | 29 => ⟨S1024x1024, .bf16⟩
  | 30 => ⟨S4096, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S4096x1, .f32⟩
  | 40 => ⟨S1x32, .f32⟩
  | 41 => ⟨S4096x32, .f32⟩
  | 42 => ⟨S4096x32, .f32⟩
  | 43 => ⟨S4096x32, .f32⟩
  | 44 => ⟨S4096x32, .f32⟩
  | 45 => ⟨S1x4096x1x32, .f32⟩
  | 46 => ⟨S1x4096x4x32, .f32⟩
  | 47 => ⟨S4096x128, .f32⟩
  | 48 => ⟨S4096x32, .f32⟩
  | 49 => ⟨S1x4096x1x32, .f32⟩
  | 50 => ⟨S1x4096x4x32, .f32⟩
  | 51 => ⟨S4096x128, .f32⟩
  | 52 => ⟨S4, .f32⟩
  | 53 => ⟨S_, .f32⟩
  | 54 => ⟨S4, .f32⟩
  | 55 => ⟨S4, .f32⟩
  | 56 => ⟨S_, .f32⟩
  | 57 => ⟨S4, .f32⟩
  | 58 => ⟨S4, .f32⟩
  | 59 => ⟨S_, .f32⟩
  | 60 => ⟨S4, .f32⟩
  | 61 => ⟨S4, .f32⟩
  | 62 => ⟨S4, .f32⟩
  | 63 => ⟨S64, .f32⟩
  | 64 => ⟨S64x1, .f32⟩
  | 65 => ⟨S1x64, .f32⟩
  | 66 => ⟨S64x64, .f32⟩
  | 67 => ⟨S64x64, .f32⟩
  | 68 => ⟨S64x64, .f32⟩
  | 69 => ⟨S_, .f32⟩
  | 70 => ⟨S64x64, .f32⟩
  | 71 => ⟨S64x64, .i1⟩
  | 72 => ⟨S4x1x1, .f32⟩
  | 73 => ⟨S_, .f32⟩
  | 74 => ⟨S64x64, .f32⟩
  | 75 => ⟨S64x64, .f32⟩
  | 76 => ⟨S1x64x64, .f32⟩
  | 77 => ⟨S4x64x64, .f32⟩
  | 78 => ⟨S4x64x64, .f32⟩
  | 79 => ⟨S4x64x64, .f32⟩
  | 80 => ⟨S4x64x64, .f32⟩
  | 81 => ⟨S_, .f32⟩
  | 82 => ⟨S_, .f32⟩
  | 83 => ⟨S4x64x64, .i1⟩
  | 84 => ⟨S4x64x64, .f32⟩
  | 85 => ⟨S4x64x64, .f32⟩
  | 86 => ⟨S64x4x64, .f32⟩
  | 87 => ⟨S64x256, .f32⟩
  | 88 => ⟨S_, .f32⟩
  | 89 => ⟨S64x256, .f32⟩
  | 90 => ⟨S64x256, .f32⟩
  | 91 => ⟨S4x1, .f32⟩
  | 92 => ⟨S_, .f32⟩
  | 93 => ⟨S64, .f32⟩
  | 94 => ⟨S64, .f32⟩
  | 95 => ⟨S1x64, .f32⟩
  | 96 => ⟨S4x64, .f32⟩
  | 97 => ⟨S4x64, .f32⟩
  | 98 => ⟨S4x64, .f32⟩
  | 99 => ⟨S4x64, .f32⟩
  | 100 => ⟨S4x1, .f32⟩
  | 101 => ⟨S_, .f32⟩
  | 102 => ⟨S64, .f32⟩
  | 103 => ⟨S64, .f32⟩
  | 104 => ⟨S1x64, .f32⟩
  | 105 => ⟨S4x64, .f32⟩
  | 106 => ⟨S4x64, .f32⟩
  | 107 => ⟨S4x64, .f32⟩
  | 108 => ⟨S4x64, .f32⟩
  | 109 => ⟨S64x4, .f32⟩
  | 110 => ⟨S_, .i32⟩
  | 111 => ⟨S256, .i32⟩
  | 112 => ⟨S256, .i32⟩
  | 113 => ⟨S256, .i32⟩
  | 114 => ⟨S256x1, .i32⟩
  | 115 => ⟨S64x256, .f32⟩
  | 116 => ⟨S_, .f32⟩
  | 117 => ⟨S64x256, .f32⟩
  | 118 => ⟨S64x256, .f32⟩
  | 119 => ⟨S64x4, .f32⟩
  | 120 => ⟨S_, .i32⟩
  | 121 => ⟨S256, .i32⟩
  | 122 => ⟨S256, .i32⟩
  | 123 => ⟨S256, .i32⟩
  | 124 => ⟨S256x1, .i32⟩
  | 125 => ⟨S64x256, .f32⟩
  | 126 => ⟨S_, .f32⟩
  | 127 => ⟨S4, .f32⟩
  | _ => ⟨S16x4096x1024, .f32⟩

abbrev hbmTy0_2 (i : Nat) : BufTy := match i % 128 with
  | 0 => ⟨S4, .f32⟩
  | 1 => ⟨S4, .f32⟩
  | 2 => ⟨S_, .i32⟩
  | 3 => ⟨S256, .i32⟩
  | 4 => ⟨S256, .i32⟩
  | 5 => ⟨S256, .i32⟩
  | 6 => ⟨S256x1, .i32⟩
  | 7 => ⟨S256, .f32⟩
  | 8 => ⟨S1x256, .f32⟩
  | 9 => ⟨S256x256, .i32⟩
  | 10 => ⟨S256x256, .i32⟩
  | 11 => ⟨S256x256, .i1⟩
  | 12 => ⟨S_, .i32⟩
  | 13 => ⟨S_, .i32⟩
  | 14 => ⟨S256x256, .i32⟩
  | 15 => ⟨S256x256, .i32⟩
  | 16 => ⟨S256x256, .i32⟩
  | 17 => ⟨S_, .i32⟩
  | 18 => ⟨S256x256, .i32⟩
  | 19 => ⟨S256x256, .i1⟩
  | 20 => ⟨S256x256, .i32⟩
  | 21 => ⟨S256x256, .i32⟩
  | 22 => ⟨S_, .i32⟩
  | 23 => ⟨S256x256, .i32⟩
  | 24 => ⟨S256x256, .i1⟩
  | 25 => ⟨S256x256, .i1⟩
  | 26 => ⟨S_, .i32⟩
  | 27 => ⟨S256x256, .i32⟩
  | 28 => ⟨S256x256, .i32⟩
  | 29 => ⟨S256x256, .i32⟩
  | 30 => ⟨S_, .i32⟩
  | 31 => ⟨S_, .i32⟩
  | 32 => ⟨S256x256, .i32⟩
  | 33 => ⟨S256x256, .i32⟩
  | 34 => ⟨S256x256, .i32⟩
  | 35 => ⟨S_, .i32⟩
  | 36 => ⟨S256x256, .i32⟩
  | 37 => ⟨S256x256, .i1⟩
  | 38 => ⟨S256x256, .i32⟩
  | 39 => ⟨S256x256, .i32⟩
  | 40 => ⟨S_, .i32⟩
  | 41 => ⟨S256x256, .i32⟩
  | 42 => ⟨S256x256, .i1⟩
  | 43 => ⟨S256x256, .i1⟩
  | 44 => ⟨S_, .i32⟩
  | 45 => ⟨S256x256, .i32⟩
  | 46 => ⟨S256x256, .i32⟩
  | 47 => ⟨S256x256, .i32⟩
  | 48 => ⟨S256x256, .i1⟩
  | 49 => ⟨S256x256, .i1⟩
  | 50 => ⟨S256x256, .i32⟩
  | 51 => ⟨S256x256, .i32⟩
  | 52 => ⟨S_, .i32⟩
  | 53 => ⟨S_, .i32⟩
  | 54 => ⟨S256x256, .i32⟩
  | 55 => ⟨S256x256, .i32⟩
  | 56 => ⟨S256x256, .i32⟩
  | 57 => ⟨S_, .i32⟩
  | 58 => ⟨S256x256, .i32⟩
  | 59 => ⟨S256x256, .i1⟩
  | 60 => ⟨S256x256, .i32⟩
  | 61 => ⟨S256x256, .i32⟩
  | 62 => ⟨S_, .i32⟩
  | 63 => ⟨S256x256, .i32⟩
  | 64 => ⟨S256x256, .i1⟩
  | 65 => ⟨S256x256, .i1⟩
  | 66 => ⟨S_, .i32⟩
  | 67 => ⟨S256x256, .i32⟩
  | 68 => ⟨S256x256, .i32⟩
  | 69 => ⟨S256x256, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S256x256, .i32⟩
  | 77 => ⟨S256x256, .i32⟩
  | 78 => ⟨S_, .i32⟩
  | 79 => ⟨S256x256, .i32⟩
  | 80 => ⟨S256x256, .i1⟩
  | 81 => ⟨S_, .i32⟩
  | 82 => ⟨S256x256, .i32⟩
  | 83 => ⟨S256x256, .i1⟩
  | 84 => ⟨S_, .i32⟩
  | 85 => ⟨S_, .i1⟩
  | 86 => ⟨S256x256, .i1⟩
  | 87 => ⟨S256x256, .i1⟩
  | 88 => ⟨S256x256, .i1⟩
  | 89 => ⟨S256x256, .i32⟩
  | 90 => ⟨S256x256, .i32⟩
  | 91 => ⟨S256x256, .i32⟩
  | 92 => ⟨S_, .i32⟩
  | 93 => ⟨S_, .i32⟩
  | 94 => ⟨S256x256, .i32⟩
  | 95 => ⟨S256x256, .i32⟩
  | 96 => ⟨S256x256, .i32⟩
  | 97 => ⟨S_, .i32⟩
  | 98 => ⟨S256x256, .i32⟩
  | 99 => ⟨S256x256, .i1⟩
  | 100 => ⟨S256x256, .i32⟩
  | 101 => ⟨S256x256, .i32⟩
  | 102 => ⟨S_, .i32⟩
  | 103 => ⟨S256x256, .i32⟩
  | 104 => ⟨S256x256, .i1⟩
  | 105 => ⟨S256x256, .i1⟩
  | 106 => ⟨S_, .i32⟩
  | 107 => ⟨S256x256, .i32⟩
  | 108 => ⟨S256x256, .i32⟩
  | 109 => ⟨S256x256, .i32⟩
  | 110 => ⟨S256x256, .i1⟩
  | 111 => ⟨S_, .i32⟩
  | 112 => ⟨S_, .i32⟩
  | 113 => ⟨S256x256, .i32⟩
  | 114 => ⟨S256x256, .i32⟩
  | 115 => ⟨S256x256, .i32⟩
  | 116 => ⟨S_, .i32⟩
  | 117 => ⟨S256x256, .i32⟩
  | 118 => ⟨S256x256, .i1⟩
  | 119 => ⟨S256x256, .i32⟩
  | 120 => ⟨S256x256, .i32⟩
  | 121 => ⟨S_, .i32⟩
  | 122 => ⟨S256x256, .i32⟩
  | 123 => ⟨S256x256, .i1⟩
  | 124 => ⟨S256x256, .i1⟩
  | 125 => ⟨S_, .i32⟩
  | 126 => ⟨S256x256, .i32⟩
  | 127 => ⟨S256x256, .i32⟩
  | _ => ⟨S16x4096x1024, .f32⟩

abbrev hbmTy0_3 (i : Nat) : BufTy := match i % 128 with
  | 0 => ⟨S256x256, .i32⟩
  | 1 => ⟨S_, .i32⟩
  | 2 => ⟨S_, .i32⟩
  | 3 => ⟨S256x256, .i32⟩
  | 4 => ⟨S256x256, .i32⟩
  | 5 => ⟨S256x256, .i32⟩
  | 6 => ⟨S_, .i32⟩
  | 7 => ⟨S256x256, .i32⟩
  | 8 => ⟨S256x256, .i1⟩
  | 9 => ⟨S256x256, .i32⟩
  | 10 => ⟨S256x256, .i32⟩
  | 11 => ⟨S_, .i32⟩
  | 12 => ⟨S256x256, .i32⟩
  | 13 => ⟨S256x256, .i1⟩
  | 14 => ⟨S256x256, .i1⟩
  | 15 => ⟨S_, .i32⟩
  | 16 => ⟨S256x256, .i32⟩
  | 17 => ⟨S256x256, .i32⟩
  | 18 => ⟨S256x256, .i32⟩
  | 19 => ⟨S256x256, .i1⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S256x256, .i32⟩
  | 27 => ⟨S256x256, .i32⟩
  | 28 => ⟨S_, .i32⟩
  | 29 => ⟨S256x256, .i32⟩
  | 30 => ⟨S256x256, .i1⟩
  | 31 => ⟨S_, .i32⟩
  | 32 => ⟨S256x256, .i32⟩
  | 33 => ⟨S256x256, .i1⟩
  | 34 => ⟨S_, .i32⟩
  | 35 => ⟨S_, .i1⟩
  | 36 => ⟨S256x256, .i1⟩
  | 37 => ⟨S256x256, .i1⟩
  | 38 => ⟨S256x256, .i1⟩
  | 39 => ⟨S256x256, .i32⟩
  | 40 => ⟨S256x256, .i32⟩
  | 41 => ⟨S256x256, .i32⟩
  | 42 => ⟨S_, .i32⟩
  | 43 => ⟨S_, .i32⟩
  | 44 => ⟨S256x256, .i32⟩
  | 45 => ⟨S256x256, .i32⟩
  | 46 => ⟨S256x256, .i32⟩
  | 47 => ⟨S_, .i32⟩
  | 48 => ⟨S256x256, .i32⟩
  | 49 => ⟨S256x256, .i1⟩
  | 50 => ⟨S256x256, .i32⟩
  | 51 => ⟨S256x256, .i32⟩
  | 52 => ⟨S_, .i32⟩
  | 53 => ⟨S256x256, .i32⟩
  | 54 => ⟨S256x256, .i1⟩
  | 55 => ⟨S256x256, .i1⟩
  | 56 => ⟨S_, .i32⟩
  | 57 => ⟨S256x256, .i32⟩
  | 58 => ⟨S256x256, .i32⟩
  | 59 => ⟨S256x256, .i32⟩
  | 60 => ⟨S_, .i32⟩
  | 61 => ⟨S_, .i32⟩
  | 62 => ⟨S256x256, .i32⟩
  | 63 => ⟨S256x256, .i32⟩
  | 64 => ⟨S256x256, .i32⟩
  | 65 => ⟨S_, .i32⟩
  | 66 => ⟨S256x256, .i32⟩
  | 67 => ⟨S256x256, .i1⟩
  | 68 => ⟨S256x256, .i32⟩
  | 69 => ⟨S256x256, .i32⟩
  | 70 => ⟨S_, .i32⟩
  | 71 => ⟨S256x256, .i32⟩
  | 72 => ⟨S256x256, .i1⟩
  | 73 => ⟨S256x256, .i1⟩
  | 74 => ⟨S_, .i32⟩
  | 75 => ⟨S256x256, .i32⟩
  | 76 => ⟨S256x256, .i32⟩
  | 77 => ⟨S256x256, .i32⟩
  | 78 => ⟨S256x256, .i1⟩
  | 79 => ⟨S_, .i32⟩
  | 80 => ⟨S_, .i32⟩
  | 81 => ⟨S256x256, .i32⟩
  | 82 => ⟨S256x256, .i32⟩
  | 83 => ⟨S256x256, .i32⟩
  | 84 => ⟨S_, .i32⟩
  | 85 => ⟨S256x256, .i32⟩
  | 86 => ⟨S256x256, .i1⟩
  | 87 => ⟨S256x256, .i32⟩
  | 88 => ⟨S256x256, .i32⟩
  | 89 => ⟨S_, .i32⟩
  | 90 => ⟨S256x256, .i32⟩
  | 91 => ⟨S256x256, .i1⟩
  | 92 => ⟨S256x256, .i1⟩
  | 93 => ⟨S_, .i32⟩
  | 94 => ⟨S256x256, .i32⟩
  | 95 => ⟨S256x256, .i32⟩
  | 96 => ⟨S256x256, .i32⟩
  | 97 => ⟨S_, .i32⟩
  | 98 => ⟨S_, .i32⟩
  | 99 => ⟨S256x256, .i32⟩
  | 100 => ⟨S256x256, .i32⟩
  | 101 => ⟨S256x256, .i32⟩
  | 102 => ⟨S_, .i32⟩
  | 103 => ⟨S256x256, .i32⟩
  | 104 => ⟨S256x256, .i1⟩
  | 105 => ⟨S256x256, .i32⟩
  | 106 => ⟨S256x256, .i32⟩
  | 107 => ⟨S_, .i32⟩
  | 108 => ⟨S256x256, .i32⟩
  | 109 => ⟨S256x256, .i1⟩
  | 110 => ⟨S256x256, .i1⟩
  | 111 => ⟨S_, .i32⟩
  | 112 => ⟨S256x256, .i32⟩
  | 113 => ⟨S256x256, .i32⟩
  | 114 => ⟨S256x256, .i32⟩
  | 115 => ⟨S256x256, .i1⟩
  | 116 => ⟨S_, .f32⟩
  | 117 => ⟨S_, .f32⟩
  | 118 => ⟨S256x256, .f32⟩
  | 119 => ⟨S256x256, .f32⟩
  | 120 => ⟨S256x256, .f32⟩
  | 121 => ⟨S256x256, .bf16⟩
  | 122 => ⟨S256x256, .bf16⟩
  | 123 => ⟨S256x256, .bf16⟩
  | 124 => ⟨S256x256, .f32⟩
  | 125 => ⟨S256x256, .bf16⟩
  | 126 => ⟨S16x4096x1024, .f32⟩
  | _ => ⟨S16x4096x1024, .f32⟩

abbrev hbmTy (i : Nat) : BufTy := match i / 128 with
  | 0 => hbmTy0_0 i
  | 1 => hbmTy0_1 i
  | 2 => hbmTy0_2 i
  | 3 => hbmTy0_3 i
  | _ => ⟨S16x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x3584, .bf16⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .f32⟩
  | .local _ .vmem, ⟨16, _⟩ => ⟨S256x256, .bf16⟩
  | .local _ .vmem, ⟨17, _⟩ => ⟨S4x1024, .f32⟩
  | .local _ .vmem, ⟨18, _⟩ => ⟨S1x1024, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S4x256, .f32⟩
  | .local _ .vmem, ⟨24, _⟩ => ⟨S1x256, .f32⟩
  | .local _ .vmem, ⟨25, _⟩ => ⟨S256x512, .bf16⟩
  | .local _ .vmem, ⟨26, _⟩ => ⟨S1x512, .f32⟩
  | .local _ .vmem, ⟨27, _⟩ => ⟨S1x256, .f32⟩
  | .local _ .vmem, ⟨28, _⟩ => ⟨S1024x1024, .bf16⟩
  | .local _ .vmem, ⟨29, _⟩ => ⟨S1x512x1024, .f32⟩
  | .local _ .vmem, ⟨30, _⟩ => ⟨S1x512x1024, .f32⟩
  | .local _ .vmem, ⟨31, _⟩ => ⟨S256x256, .f32⟩
  | .local _ .vmem, ⟨32, _⟩ => ⟨S2x128x256, .f32⟩
  | .local _ .vmem, ⟨33, _⟩ => ⟨S8x256, .f32⟩
  | .local _ .vmem, ⟨34, _⟩ => ⟨S8x1024, .f32⟩
  | .local _ .vmem, ⟨35, _⟩ => ⟨S8x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_c_1 : Ref sig .tc := ⟨.hbm, 19, rfl⟩
abbrev main_c_2 : Ref sig .tc := ⟨.hbm, 20, rfl⟩
abbrev main_c_3 : Ref sig .tc := ⟨.hbm, 21, rfl⟩
abbrev main_c_4 : Ref sig .tc := ⟨.hbm, 22, rfl⟩
abbrev main_c_5 : Ref sig .tc := ⟨.hbm, 23, rfl⟩
abbrev main_c_6 : Ref sig .tc := ⟨.hbm, 24, rfl⟩
abbrev main_c_7 : Ref sig .tc := ⟨.hbm, 25, rfl⟩
abbrev main_c_8 : Ref sig .tc := ⟨.hbm, 26, rfl⟩
abbrev main_c_9 : Ref sig .tc := ⟨.hbm, 27, rfl⟩
abbrev main_c_10 : Ref sig .tc := ⟨.hbm, 28, rfl⟩
abbrev main_c_11 : Ref sig .tc := ⟨.hbm, 29, rfl⟩
abbrev main_v0 : Ref sig .tc := ⟨.hbm, 30, rfl⟩
abbrev main_c_12 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_c_13 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_14 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_15 : Ref sig .tc := ⟨.hbm, 63, rfl⟩
abbrev main_v29 : Ref sig .tc := ⟨.hbm, 64, rfl⟩
abbrev main_c_16 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_17 : Ref sig .tc := ⟨.hbm, 71, rfl⟩
abbrev main_v35 : Ref sig .tc := ⟨.hbm, 72, rfl⟩
abbrev main_c_18 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_19 : Ref sig .tc := ⟨.hbm, 79, rfl⟩
abbrev main_v41 : Ref sig .tc := ⟨.hbm, 80, rfl⟩
abbrev main_c_20 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_21 : Ref sig .tc := ⟨.hbm, 87, rfl⟩
abbrev main_v47 : Ref sig .tc := ⟨.hbm, 88, rfl⟩
abbrev main_c_22 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_23 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_24 : Ref sig .tc := ⟨.hbm, 97, rfl⟩
abbrev main_v54 : Ref sig .tc := ⟨.hbm, 98, rfl⟩
abbrev main_c_25 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_26 : Ref sig .tc := ⟨.hbm, 105, rfl⟩
abbrev main_v60 : Ref sig .tc := ⟨.hbm, 106, rfl⟩
abbrev main_c_27 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_28 : Ref sig .tc := ⟨.hbm, 113, rfl⟩
abbrev main_v66 : Ref sig .tc := ⟨.hbm, 114, rfl⟩
abbrev main_c_29 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_30 : Ref sig .tc := ⟨.hbm, 121, rfl⟩
abbrev main_v72 : Ref sig .tc := ⟨.hbm, 122, rfl⟩
abbrev main_c_31 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_32 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_33 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_c_34 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_35 : Ref sig .tc := ⟨.hbm, 161, rfl⟩
abbrev main_v107 : Ref sig .tc := ⟨.hbm, 162, rfl⟩
abbrev main_v108 : Ref sig .tc := ⟨.hbm, 163, rfl⟩
abbrev main_cst_36 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_37 : Ref sig .tc := ⟨.hbm, 181, rfl⟩
abbrev main_v125 : Ref sig .tc := ⟨.hbm, 182, rfl⟩
abbrev main_v126 : Ref sig .tc := ⟨.hbm, 183, rfl⟩
abbrev main_cst_38 : Ref sig .tc := ⟨.hbm, 184, rfl⟩
abbrev main_v127 : Ref sig .tc := ⟨.hbm, 185, rfl⟩
abbrev main_v128 : Ref sig .tc := ⟨.hbm, 186, rfl⟩
abbrev main_cst_39 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_40 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_41 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_42 : Ref sig .tc := ⟨.hbm, 209, rfl⟩
abbrev main_call0_v0 : Ref sig .tc := ⟨.hbm, 210, rfl⟩
abbrev main_call0_v1 : Ref sig .tc := ⟨.hbm, 211, rfl⟩
abbrev main_call0_v2 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_43 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_cst_44 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_45 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_c_46 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_cst_47 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_c_48 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_cst_49 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_c_50 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_c_51 : Ref sig .tc := ⟨.hbm, 268, rfl⟩
abbrev main_call1_v0 : Ref sig .tc := ⟨.hbm, 269, rfl⟩
abbrev main_call1_v1 : Ref sig .tc := ⟨.hbm, 270, rfl⟩
abbrev main_call1_v2 : Ref sig .tc := ⟨.hbm, 271, rfl⟩
abbrev main_call1_v3 : Ref sig .tc := ⟨.hbm, 272, rfl⟩
abbrev main_call1_v4 : Ref sig .tc := ⟨.hbm, 273, rfl⟩
abbrev main_call1_v5 : Ref sig .tc := ⟨.hbm, 274, rfl⟩
abbrev main_call1_v6 : Ref sig .tc := ⟨.hbm, 275, rfl⟩
abbrev main_call1_v7 : Ref sig .tc := ⟨.hbm, 276, rfl⟩
abbrev main_call1_v8 : Ref sig .tc := ⟨.hbm, 277, rfl⟩
abbrev main_call1_c : Ref sig .tc := ⟨.hbm, 278, rfl⟩
abbrev main_call1_v9 : Ref sig .tc := ⟨.hbm, 279, rfl⟩
abbrev main_call1_v10 : Ref sig .tc := ⟨.hbm, 280, rfl⟩
abbrev main_call1_v11 : Ref sig .tc := ⟨.hbm, 281, rfl⟩
abbrev main_call1_c_0 : Ref sig .tc := ⟨.hbm, 282, rfl⟩
abbrev main_call1_v12 : Ref sig .tc := ⟨.hbm, 283, rfl⟩
abbrev main_call1_v13 : Ref sig .tc := ⟨.hbm, 284, rfl⟩
abbrev main_v195 : Ref sig .tc := ⟨.hbm, 285, rfl⟩
abbrev main_c_52 : Ref sig .tc := ⟨.hbm, 286, rfl⟩
abbrev main_call2_v0 : Ref sig .tc := ⟨.hbm, 287, rfl⟩
abbrev main_call2_v1 : Ref sig .tc := ⟨.hbm, 288, rfl⟩
abbrev main_call2_v2 : Ref sig .tc := ⟨.hbm, 289, rfl⟩
abbrev main_call2_v3 : Ref sig .tc := ⟨.hbm, 290, rfl⟩
abbrev main_call2_v4 : Ref sig .tc := ⟨.hbm, 291, rfl⟩
abbrev main_call2_v5 : Ref sig .tc := ⟨.hbm, 292, rfl⟩
abbrev main_call2_v6 : Ref sig .tc := ⟨.hbm, 293, rfl⟩
abbrev main_call2_v7 : Ref sig .tc := ⟨.hbm, 294, rfl⟩
abbrev main_call2_v8 : Ref sig .tc := ⟨.hbm, 295, rfl⟩
abbrev main_call2_c : Ref sig .tc := ⟨.hbm, 296, rfl⟩
abbrev main_call2_v9 : Ref sig .tc := ⟨.hbm, 297, rfl⟩
abbrev main_call2_v10 : Ref sig .tc := ⟨.hbm, 298, rfl⟩
abbrev main_call2_v11 : Ref sig .tc := ⟨.hbm, 299, rfl⟩
abbrev main_call2_c_0 : Ref sig .tc := ⟨.hbm, 300, rfl⟩
abbrev main_call2_v12 : Ref sig .tc := ⟨.hbm, 301, rfl⟩
abbrev main_call2_v13 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_c_53 : Ref sig .tc := ⟨.hbm, 308, rfl⟩
abbrev main_call3_v0 : Ref sig .tc := ⟨.hbm, 309, rfl⟩
abbrev main_call3_v1 : Ref sig .tc := ⟨.hbm, 310, rfl⟩
abbrev main_call3_v2 : Ref sig .tc := ⟨.hbm, 311, rfl⟩
abbrev main_call3_v3 : Ref sig .tc := ⟨.hbm, 312, rfl⟩
abbrev main_call3_v4 : Ref sig .tc := ⟨.hbm, 313, rfl⟩
abbrev main_call3_v5 : Ref sig .tc := ⟨.hbm, 314, rfl⟩
abbrev main_call3_v6 : Ref sig .tc := ⟨.hbm, 315, rfl⟩
abbrev main_call3_v7 : Ref sig .tc := ⟨.hbm, 316, rfl⟩
abbrev main_call3_v8 : Ref sig .tc := ⟨.hbm, 317, rfl⟩
abbrev main_call3_c : Ref sig .tc := ⟨.hbm, 318, rfl⟩
abbrev main_call3_v9 : Ref sig .tc := ⟨.hbm, 319, rfl⟩
abbrev main_call3_v10 : Ref sig .tc := ⟨.hbm, 320, rfl⟩
abbrev main_call3_v11 : Ref sig .tc := ⟨.hbm, 321, rfl⟩
abbrev main_call3_c_0 : Ref sig .tc := ⟨.hbm, 322, rfl⟩
abbrev main_call3_v12 : Ref sig .tc := ⟨.hbm, 323, rfl⟩
abbrev main_call3_v13 : Ref sig .tc := ⟨.hbm, 324, rfl⟩
abbrev main_v201 : Ref sig .tc := ⟨.hbm, 325, rfl⟩
abbrev main_c_54 : Ref sig .tc := ⟨.hbm, 326, rfl⟩
abbrev main_call4_v0 : Ref sig .tc := ⟨.hbm, 327, rfl⟩
abbrev main_call4_c : Ref sig .tc := ⟨.hbm, 328, rfl⟩
abbrev main_call4_v1 : Ref sig .tc := ⟨.hbm, 329, rfl⟩
abbrev main_call4_c_0 : Ref sig .tc := ⟨.hbm, 330, rfl⟩
abbrev main_call4_v2 : Ref sig .tc := ⟨.hbm, 331, rfl⟩
abbrev main_call4_v3 : Ref sig .tc := ⟨.hbm, 332, rfl⟩
abbrev main_call4_v4 : Ref sig .tc := ⟨.hbm, 333, rfl⟩
abbrev main_call4_c_1 : Ref sig .tc := ⟨.hbm, 334, rfl⟩
abbrev main_call4_v5 : Ref sig .tc := ⟨.hbm, 335, rfl⟩
abbrev main_call4_v6 : Ref sig .tc := ⟨.hbm, 336, rfl⟩
abbrev main_call4_c_2 : Ref sig .tc := ⟨.hbm, 337, rfl⟩
abbrev main_call4_v7 : Ref sig .tc := ⟨.hbm, 338, rfl⟩
abbrev main_call4_v8 : Ref sig .tc := ⟨.hbm, 339, rfl⟩
abbrev main_call4_c_3 : Ref sig .tc := ⟨.hbm, 340, rfl⟩
abbrev main_call4_v9 : Ref sig .tc := ⟨.hbm, 341, rfl⟩
abbrev main_call4_v10 : Ref sig .tc := ⟨.hbm, 342, rfl⟩
abbrev main_call4_v11 : Ref sig .tc := ⟨.hbm, 343, rfl⟩
abbrev main_call4_v12 : Ref sig .tc := ⟨.hbm, 344, rfl⟩
abbrev main_call4_v13 : Ref sig .tc := ⟨.hbm, 345, rfl⟩
abbrev main_call4_v14 : Ref sig .tc := ⟨.hbm, 346, rfl⟩
abbrev main_v202 : Ref sig .tc := ⟨.hbm, 347, rfl⟩
abbrev main_c_55 : Ref sig .tc := ⟨.hbm, 348, rfl⟩
abbrev main_call5_v0 : Ref sig .tc := ⟨.hbm, 349, rfl⟩
abbrev main_call5_v1 : Ref sig .tc := ⟨.hbm, 350, rfl⟩
abbrev main_call5_v2 : Ref sig .tc := ⟨.hbm, 351, rfl⟩
abbrev main_call5_v3 : Ref sig .tc := ⟨.hbm, 352, rfl⟩
abbrev main_call5_v4 : Ref sig .tc := ⟨.hbm, 353, rfl⟩
abbrev main_call5_v5 : Ref sig .tc := ⟨.hbm, 354, rfl⟩
abbrev main_call5_v6 : Ref sig .tc := ⟨.hbm, 355, rfl⟩
abbrev main_call5_v7 : Ref sig .tc := ⟨.hbm, 356, rfl⟩
abbrev main_call5_v8 : Ref sig .tc := ⟨.hbm, 357, rfl⟩
abbrev main_call5_c : Ref sig .tc := ⟨.hbm, 358, rfl⟩
abbrev main_call5_v9 : Ref sig .tc := ⟨.hbm, 359, rfl⟩
abbrev main_call5_v10 : Ref sig .tc := ⟨.hbm, 360, rfl⟩
abbrev main_call5_v11 : Ref sig .tc := ⟨.hbm, 361, rfl⟩
abbrev main_call5_c_0 : Ref sig .tc := ⟨.hbm, 362, rfl⟩
abbrev main_call5_v12 : Ref sig .tc := ⟨.hbm, 363, rfl⟩
abbrev main_call5_v13 : Ref sig .tc := ⟨.hbm, 364, rfl⟩
abbrev main_v203 : Ref sig .tc := ⟨.hbm, 365, rfl⟩
abbrev main_v204 : Ref sig .tc := ⟨.hbm, 366, rfl⟩
abbrev main_c_56 : Ref sig .tc := ⟨.hbm, 367, rfl⟩
abbrev main_call6_v0 : Ref sig .tc := ⟨.hbm, 368, rfl⟩
abbrev main_call6_v1 : Ref sig .tc := ⟨.hbm, 369, rfl⟩
abbrev main_call6_v2 : Ref sig .tc := ⟨.hbm, 370, rfl⟩
abbrev main_call6_v3 : Ref sig .tc := ⟨.hbm, 371, rfl⟩
abbrev main_call6_v4 : Ref sig .tc := ⟨.hbm, 372, rfl⟩
abbrev main_call6_v5 : Ref sig .tc := ⟨.hbm, 373, rfl⟩
abbrev main_call6_v6 : Ref sig .tc := ⟨.hbm, 374, rfl⟩
abbrev main_call6_v7 : Ref sig .tc := ⟨.hbm, 375, rfl⟩
abbrev main_call6_v8 : Ref sig .tc := ⟨.hbm, 376, rfl⟩
abbrev main_call6_c : Ref sig .tc := ⟨.hbm, 377, rfl⟩
abbrev main_call6_v9 : Ref sig .tc := ⟨.hbm, 378, rfl⟩
abbrev main_call6_v10 : Ref sig .tc := ⟨.hbm, 379, rfl⟩
abbrev main_call6_v11 : Ref sig .tc := ⟨.hbm, 380, rfl⟩
abbrev main_call6_c_0 : Ref sig .tc := ⟨.hbm, 381, rfl⟩
abbrev main_call6_v12 : Ref sig .tc := ⟨.hbm, 382, rfl⟩
abbrev main_call6_v13 : Ref sig .tc := ⟨.hbm, 383, rfl⟩
abbrev main_v205 : Ref sig .tc := ⟨.hbm, 384, rfl⟩
abbrev main_c_57 : Ref sig .tc := ⟨.hbm, 385, rfl⟩
abbrev main_call7_v0 : Ref sig .tc := ⟨.hbm, 386, rfl⟩
abbrev main_call7_v1 : Ref sig .tc := ⟨.hbm, 387, rfl⟩
abbrev main_call7_v2 : Ref sig .tc := ⟨.hbm, 388, rfl⟩
abbrev main_call7_v3 : Ref sig .tc := ⟨.hbm, 389, rfl⟩
abbrev main_call7_v4 : Ref sig .tc := ⟨.hbm, 390, rfl⟩
abbrev main_call7_v5 : Ref sig .tc := ⟨.hbm, 391, rfl⟩
abbrev main_call7_v6 : Ref sig .tc := ⟨.hbm, 392, rfl⟩
abbrev main_call7_v7 : Ref sig .tc := ⟨.hbm, 393, rfl⟩
abbrev main_call7_v8 : Ref sig .tc := ⟨.hbm, 394, rfl⟩
abbrev main_call7_c : Ref sig .tc := ⟨.hbm, 395, rfl⟩
abbrev main_call7_v9 : Ref sig .tc := ⟨.hbm, 396, rfl⟩
abbrev main_call7_v10 : Ref sig .tc := ⟨.hbm, 397, rfl⟩
abbrev main_call7_v11 : Ref sig .tc := ⟨.hbm, 398, rfl⟩
abbrev main_call7_c_0 : Ref sig .tc := ⟨.hbm, 399, rfl⟩
abbrev main_call7_v12 : Ref sig .tc := ⟨.hbm, 400, rfl⟩
abbrev main_call7_v13 : Ref sig .tc := ⟨.hbm, 401, rfl⟩
abbrev main_v206 : Ref sig .tc := ⟨.hbm, 402, rfl⟩
abbrev main_v207 : Ref sig .tc := ⟨.hbm, 403, rfl⟩
abbrev main_c_58 : Ref sig .tc := ⟨.hbm, 404, rfl⟩
abbrev main_call8_v0 : Ref sig .tc := ⟨.hbm, 405, rfl⟩
abbrev main_call8_c : Ref sig .tc := ⟨.hbm, 406, rfl⟩
abbrev main_call8_v1 : Ref sig .tc := ⟨.hbm, 407, rfl⟩
abbrev main_call8_c_0 : Ref sig .tc := ⟨.hbm, 408, rfl⟩
abbrev main_call8_v2 : Ref sig .tc := ⟨.hbm, 409, rfl⟩
abbrev main_call8_v3 : Ref sig .tc := ⟨.hbm, 410, rfl⟩
abbrev main_call8_v4 : Ref sig .tc := ⟨.hbm, 411, rfl⟩
abbrev main_call8_c_1 : Ref sig .tc := ⟨.hbm, 412, rfl⟩
abbrev main_call8_v5 : Ref sig .tc := ⟨.hbm, 413, rfl⟩
abbrev main_call8_v6 : Ref sig .tc := ⟨.hbm, 414, rfl⟩
abbrev main_call8_c_2 : Ref sig .tc := ⟨.hbm, 415, rfl⟩
abbrev main_call8_v7 : Ref sig .tc := ⟨.hbm, 416, rfl⟩
abbrev main_call8_v8 : Ref sig .tc := ⟨.hbm, 417, rfl⟩
abbrev main_call8_c_3 : Ref sig .tc := ⟨.hbm, 418, rfl⟩
abbrev main_call8_v9 : Ref sig .tc := ⟨.hbm, 419, rfl⟩
abbrev main_call8_v10 : Ref sig .tc := ⟨.hbm, 420, rfl⟩
abbrev main_call8_v11 : Ref sig .tc := ⟨.hbm, 421, rfl⟩
abbrev main_call8_v12 : Ref sig .tc := ⟨.hbm, 422, rfl⟩
abbrev main_call8_v13 : Ref sig .tc := ⟨.hbm, 423, rfl⟩
abbrev main_call8_v14 : Ref sig .tc := ⟨.hbm, 424, rfl⟩
abbrev main_v208 : Ref sig .tc := ⟨.hbm, 425, rfl⟩
abbrev main_c_59 : Ref sig .tc := ⟨.hbm, 426, rfl⟩
abbrev main_call9_v0 : Ref sig .tc := ⟨.hbm, 427, rfl⟩
abbrev main_call9_v1 : Ref sig .tc := ⟨.hbm, 428, rfl⟩
abbrev main_call9_v2 : Ref sig .tc := ⟨.hbm, 429, rfl⟩
abbrev main_call9_v3 : Ref sig .tc := ⟨.hbm, 430, rfl⟩
abbrev main_call9_v4 : Ref sig .tc := ⟨.hbm, 431, rfl⟩
abbrev main_call9_v5 : Ref sig .tc := ⟨.hbm, 432, rfl⟩
abbrev main_call9_v6 : Ref sig .tc := ⟨.hbm, 433, rfl⟩
abbrev main_call9_v7 : Ref sig .tc := ⟨.hbm, 434, rfl⟩
abbrev main_call9_v8 : Ref sig .tc := ⟨.hbm, 435, rfl⟩
abbrev main_call9_c : Ref sig .tc := ⟨.hbm, 436, rfl⟩
abbrev main_call9_v9 : Ref sig .tc := ⟨.hbm, 437, rfl⟩
abbrev main_call9_v10 : Ref sig .tc := ⟨.hbm, 438, rfl⟩
abbrev main_call9_v11 : Ref sig .tc := ⟨.hbm, 439, rfl⟩
abbrev main_call9_c_0 : Ref sig .tc := ⟨.hbm, 440, rfl⟩
abbrev main_call9_v12 : Ref sig .tc := ⟨.hbm, 441, rfl⟩
abbrev main_call9_v13 : Ref sig .tc := ⟨.hbm, 442, rfl⟩
abbrev main_v209 : Ref sig .tc := ⟨.hbm, 443, rfl⟩
abbrev main_c_60 : Ref sig .tc := ⟨.hbm, 444, rfl⟩
abbrev main_call10_v0 : Ref sig .tc := ⟨.hbm, 445, rfl⟩
abbrev main_call10_v1 : Ref sig .tc := ⟨.hbm, 446, rfl⟩
abbrev main_call10_v2 : Ref sig .tc := ⟨.hbm, 447, rfl⟩
abbrev main_call10_v3 : Ref sig .tc := ⟨.hbm, 448, rfl⟩
abbrev main_call10_v4 : Ref sig .tc := ⟨.hbm, 449, rfl⟩
abbrev main_call10_v5 : Ref sig .tc := ⟨.hbm, 450, rfl⟩
abbrev main_call10_v6 : Ref sig .tc := ⟨.hbm, 451, rfl⟩
abbrev main_call10_v7 : Ref sig .tc := ⟨.hbm, 452, rfl⟩
abbrev main_call10_v8 : Ref sig .tc := ⟨.hbm, 453, rfl⟩
abbrev main_call10_c : Ref sig .tc := ⟨.hbm, 454, rfl⟩
abbrev main_call10_v9 : Ref sig .tc := ⟨.hbm, 455, rfl⟩
abbrev main_call10_v10 : Ref sig .tc := ⟨.hbm, 456, rfl⟩
abbrev main_call10_v11 : Ref sig .tc := ⟨.hbm, 457, rfl⟩
abbrev main_call10_c_0 : Ref sig .tc := ⟨.hbm, 458, rfl⟩
abbrev main_call10_v12 : Ref sig .tc := ⟨.hbm, 459, rfl⟩
abbrev main_call10_v13 : Ref sig .tc := ⟨.hbm, 460, rfl⟩
abbrev main_v210 : Ref sig .tc := ⟨.hbm, 461, rfl⟩
abbrev main_v211 : Ref sig .tc := ⟨.hbm, 462, rfl⟩
abbrev main_c_61 : Ref sig .tc := ⟨.hbm, 463, rfl⟩
abbrev main_call11_v0 : Ref sig .tc := ⟨.hbm, 464, rfl⟩
abbrev main_call11_v1 : Ref sig .tc := ⟨.hbm, 465, rfl⟩
abbrev main_call11_v2 : Ref sig .tc := ⟨.hbm, 466, rfl⟩
abbrev main_call11_v3 : Ref sig .tc := ⟨.hbm, 467, rfl⟩
abbrev main_call11_v4 : Ref sig .tc := ⟨.hbm, 468, rfl⟩
abbrev main_call11_v5 : Ref sig .tc := ⟨.hbm, 469, rfl⟩
abbrev main_call11_v6 : Ref sig .tc := ⟨.hbm, 470, rfl⟩
abbrev main_call11_v7 : Ref sig .tc := ⟨.hbm, 471, rfl⟩
abbrev main_call11_v8 : Ref sig .tc := ⟨.hbm, 472, rfl⟩
abbrev main_call11_c : Ref sig .tc := ⟨.hbm, 473, rfl⟩
abbrev main_call11_v9 : Ref sig .tc := ⟨.hbm, 474, rfl⟩
abbrev main_call11_v10 : Ref sig .tc := ⟨.hbm, 475, rfl⟩
abbrev main_call11_v11 : Ref sig .tc := ⟨.hbm, 476, rfl⟩
abbrev main_call11_c_0 : Ref sig .tc := ⟨.hbm, 477, rfl⟩
abbrev main_call11_v12 : Ref sig .tc := ⟨.hbm, 478, rfl⟩
abbrev main_call11_v13 : Ref sig .tc := ⟨.hbm, 479, rfl⟩
abbrev main_v212 : Ref sig .tc := ⟨.hbm, 480, rfl⟩
abbrev main_c_62 : Ref sig .tc := ⟨.hbm, 481, rfl⟩
abbrev main_call12_v0 : Ref sig .tc := ⟨.hbm, 482, rfl⟩
abbrev main_call12_v1 : Ref sig .tc := ⟨.hbm, 483, rfl⟩
abbrev main_call12_v2 : Ref sig .tc := ⟨.hbm, 484, rfl⟩
abbrev main_call12_v3 : Ref sig .tc := ⟨.hbm, 485, rfl⟩
abbrev main_call12_v4 : Ref sig .tc := ⟨.hbm, 486, rfl⟩
abbrev main_call12_v5 : Ref sig .tc := ⟨.hbm, 487, rfl⟩
abbrev main_call12_v6 : Ref sig .tc := ⟨.hbm, 488, rfl⟩
abbrev main_call12_v7 : Ref sig .tc := ⟨.hbm, 489, rfl⟩
abbrev main_call12_v8 : Ref sig .tc := ⟨.hbm, 490, rfl⟩
abbrev main_call12_c : Ref sig .tc := ⟨.hbm, 491, rfl⟩
abbrev main_call12_v9 : Ref sig .tc := ⟨.hbm, 492, rfl⟩
abbrev main_call12_v10 : Ref sig .tc := ⟨.hbm, 493, rfl⟩
abbrev main_call12_v11 : Ref sig .tc := ⟨.hbm, 494, rfl⟩
abbrev main_call12_c_0 : Ref sig .tc := ⟨.hbm, 495, rfl⟩
abbrev main_call12_v12 : Ref sig .tc := ⟨.hbm, 496, rfl⟩
abbrev main_call12_v13 : Ref sig .tc := ⟨.hbm, 497, rfl⟩
abbrev main_v213 : Ref sig .tc := ⟨.hbm, 498, rfl⟩
abbrev main_v214 : Ref sig .tc := ⟨.hbm, 499, rfl⟩
abbrev main_cst_63 : Ref sig .tc := ⟨.hbm, 500, rfl⟩
abbrev main_cst_64 : Ref sig .tc := ⟨.hbm, 501, rfl⟩
abbrev main_call13_v0 : Ref sig .tc := ⟨.hbm, 502, rfl⟩
abbrev main_call13_v1 : Ref sig .tc := ⟨.hbm, 503, rfl⟩
abbrev main_v215 : Ref sig .tc := ⟨.hbm, 504, rfl⟩
abbrev main_v216 : Ref sig .tc := ⟨.hbm, 505, rfl⟩
abbrev main_v217 : Ref sig .tc := ⟨.hbm, 506, rfl⟩
abbrev main_v218 : Ref sig .tc := ⟨.hbm, 507, rfl⟩
abbrev main_v219 : Ref sig .tc := ⟨.hbm, 508, rfl⟩
abbrev main_v220 : Ref sig .tc := ⟨.hbm, 509, rfl⟩
abbrev main_v221 : Ref sig .tc := ⟨.hbm, 510, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg26_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem26_1 : DmaSem sig := 30

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S4x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S256x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1024x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 2 → Memref sig .tc .vmem S1x512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Proof.Rows.lean ====
module

public import proofs.«01_k».proof.KernelIdeal
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.IdealHost
public import Idealize.ShloMosaic.Lib.Pipeline.Value

/-!
  Row operations of a convolved feed-forward block, at any width `n`, read at an index over the extended reals:
  the block shifted down by one or two rows with the rows that fall in from above taken from an eight-row tail,
  the three-tap convolution built from those shifts, the gate, one slice of the down product, and the row norm.
-/

@[expose] public section

set_option maxRecDepth 16384

noncomputable section

namespace Ffn

open Idealize.ShloMosaic Idealize.ShloMosaic.TcCoe Idealize.ShloMosaic.ValueIdx
open scoped BigOperators

/-- A matrix shape. -/
abbrev Mat (a b : ℕ) : Shape := ⟨2, ![a, b]⟩

/-- The value at row `r` of a block shifted down by `s ≤ 2` rows, rows above it coming from the end of the tail. -/
def shifted {n : ℕ} (s : ℕ) (tail : Fin 8 → Fin n → EReal) (u : Fin 512 → Fin n → EReal) (r : Fin 512) (q : Fin n) : EReal :=
  if h : r.val < s then tail ⟨(r.val + 8 - s) % 8, Nat.mod_lt _ (by norm_num)⟩ q else u ⟨r.val - s, by omega⟩ q

/-- The shift as a kernel writes it: two rotations and a choice on the row number. -/
def shiftOps (n : ℕ) (s : BitVec 32) (tail : FVec Ideal (Mat 8 n) .f32) (u : FVec Ideal (Mat 512 n) .f32)
    (hi : (Mat 512 n).Iotas .tc 32 [0]) (hr : (Mat 512 n).Rotates 0 none) (ht : (Mat 8 n).Rotates 0 none)
    (hc : Shape.Concatenates [Mat 8 n, Mat 504 n] (Mat 512 n) 0) : FVec Ideal (Mat 512 n) .f32 :=
  select (cmpi .slt (iota .tc (Mat 512 n) 32 [0] hi) (broadcast (Mat 512 n) s))
    (concatenate (Mat 512 n) 0 [⟨Mat 8 n, dynamicRotate 0 s none tail ht⟩,
      ⟨Mat 504 n, broadcast (Mat 504 n) (Scalar.ofBits (F := Ideal) .f32 0x00000000#32)⟩] hc)
    (dynamicRotate 0 s none u hr)

theorem slt_iff (r : Fin 512) (s : BitVec 32) (hs : s.toNat ≤ 8) :
    (BitVec.ofNat 32 r.val).slt s = decide (r.val < s.toNat) := by
  have h1 : (BitVec.ofNat 32 r.val).toInt = (r.val : ℤ) := by
    rw [BitVec.toInt_eq_toNat_of_lt] <;> rw [BitVec.toNat_ofNat] <;> omega
  have h2 : s.toInt = (s.toNat : ℤ) := by
    rw [BitVec.toInt_eq_toNat_of_lt]; omega
  rw [BitVec.slt, h1, h2]
  simp

theorem shiftOps_apply (n : ℕ) (s : BitVec 32) (hs : s.toNat ≤ 2) (tail : FVec Ideal (Mat 8 n) .f32)
    (u : FVec Ideal (Mat 512 n) .f32)
    (hi : (Mat 512 n).Iotas .tc 32 [0]) (hr : (Mat 512 n).Rotates 0 none) (ht : (Mat 8 n).Rotates 0 none)
    (hc : Shape.Concatenates [Mat 8 n, Mat 504 n] (Mat 512 n) 0) (r : Fin 512) (q : Fin n) :
    shiftOps n s tail u hi hr ht hc (ix2 r q)
      = shifted s.toNat (fun i k => tail (ix2 i k)) (fun i k => u (ix2 i k)) r q := by
  have hcond : cmpi .slt (iota .tc (Mat 512 n) 32 [0] hi) (broadcast (Mat 512 n) s) (ix2 r q)
      = BitVec.ofBool (decide (r.val < s.toNat)) := by
    show BitVec.ofBool (BitVec.slt (iota .tc (Mat 512 n) 32 [0] hi (ix2 r q)) s) = _
    rw [iota_single_apply]
    show BitVec.ofBool ((BitVec.ofNat 32 r.val).slt s) = _
    rw [slt_iff r s (by omega)]
  unfold shiftOps shifted
  rw [select_apply, hcond]
  by_cases h : r.val < s.toNat
  · rw [dif_pos h]
    simp only [h, decide_true]
    rw [show ∀ a b : EReal, Scalar.select (BitVec.ofBool true) a b = a from fun _ _ => rfl]
    rw [concatenate_pair_apply_left (t := Mat 512 n) 0 _ _ hc (ix2 r q) rfl (ix2 (⟨r.val, by omega⟩ : Fin 8) q)
      (fun b => by match b with | ⟨0, _⟩ => rfl | ⟨1, _⟩ => rfl)]
    refine dynamicRotate_apply (s := Mat 8 n) 0 s tail ht _ _ fun b => ?_
    match b with
    | ⟨0, _⟩ =>
      show (r.val + 8 - s.toNat) % 8 = (r.val + 8 - s.toNat % 8) % 8
      rw [Nat.mod_eq_of_lt (show s.toNat < 8 by omega)]
    | ⟨1, _⟩ => rfl
  · rw [dif_neg h]
    simp only [h, decide_false]
    rw [show ∀ a b : EReal, Scalar.select (BitVec.ofBool false) a b = b from fun _ _ => rfl]
    refine dynamicRotate_apply (s := Mat 512 n) 0 s u hr _ _ fun b => ?_
    match b with
    | ⟨0, _⟩ =>
      show r.val - s.toNat = (r.val + 512 - s.toNat % 512) % 512
      rw [Nat.mod_eq_of_lt (show s.toNat < 512 by omega)]
      have := r.isLt
      omega
    | ⟨1, _⟩ => rfl

/-- The three-tap convolution of one slice of `n` columns as a kernel writes it. -/
def convOps (n : ℕ) (u : FVec Ideal (Mat 512 n) .f32) (tail : FVec Ideal (Mat 8 n) .f32)
    (w2 b w1 w0 : FVec Ideal (Mat 1 n) .f32)
    (hi : (Mat 512 n).Iotas .tc 32 [0]) (hr : (Mat 512 n).Rotates 0 none) (ht : (Mat 8 n).Rotates 0 none)
    (hc : Shape.Concatenates [Mat 8 n, Mat 504 n] (Mat 512 n) 0)
    (hb : (Mat 1 n).Broadcasts (Mat 512 n)) (hs : (Mat 1 n).ShapeCasts (Mat 1 n)) : FVec Ideal (Mat 512 n) .f32 :=
  addf (addf (addf (mulf u (broadcastTo (Mat 512 n) w2 hb)) (broadcastTo (Mat 512 n) (shapeCast (Mat 1 n) b hs) hb))
      (mulf (shiftOps n 1#32 tail u hi hr ht hc) (broadcastTo (Mat 512 n) w1 hb)))
    (mulf (shiftOps n 2#32 tail u hi hr ht hc) (broadcastTo (Mat 512 n) w0 hb))

theorem convOps_apply (n : ℕ) (u : FVec Ideal (Mat 512 n) .f32) (tail : FVec Ideal (Mat 8 n) .f32)
    (w2 b w1 w0 : FVec Ideal (Mat 1 n) .f32)
    (hi : (Mat 512 n).Iotas .tc 32 [0]) (hr : (Mat 512 n).Rotates 0 none) (ht : (Mat 8 n).Rotates 0 none)
    (hc : Shape.Concatenates [Mat 8 n, Mat 504 n] (Mat 512 n) 0)
    (hb : (Mat 1 n).Broadcasts (Mat 512 n)) (hs : (Mat 1 n).ShapeCasts (Mat 1 n)) (r : Fin 512) (q : Fin n) :
    convOps n u tail w2 b w1 w0 hi hr ht hc hb hs (ix2 r q)
      = (((u (ix2 r q) : EReal) * w2 (ix2 (0 : Fin 1) q) + b (ix2 (0 : Fin 1) q)
        + shifted 1 (fun i k => tail (ix2 i k)) (fun i k => u (ix2 i k)) r q * w1 (ix2 (0 : Fin 1) q))
        + shifted 2 (fun i k => tail (ix2 i k)) (fun i k => u (ix2 i k)) r q * w0 (ix2 (0 : Fin 1) q) : EReal) := by
  have e1 := shiftOps_apply n 1#32 (by decide) tail u hi hr ht hc r q
  have e2 := shiftOps_apply n 2#32 (by decide) tail u hi hr ht hc r q
  unfold convOps
  show (((u (ix2 r q) : EReal) * broadcastTo (Mat 512 n) w2 hb (ix2 r q)
      + broadcastTo (Mat 512 n) (shapeCast (Mat 1 n) b hs) hb (ix2 r q)
      + shiftOps n 1#32 tail u hi hr ht hc (ix2 r q) * broadcastTo (Mat 512 n) w1 hb (ix2 r q))
      + shiftOps n 2#32 tail u hi hr ht hc (ix2 r q) * broadcastTo (Mat 512 n) w0 hb (ix2 r q) : EReal) = _
  rw [e1, e2, shapeCast_self]
  simp only [broadcastTo_1b_ab_apply]
  rfl

/-- The gate of one number by another. -/
def gate (u v : EReal) : EReal :=
  u * (Ideal.ofBits .f32 0x3F000000#32 * (Ideal.ofBits .f32 0x3F800000#32
    + FloatOps.tanh (F := Ideal) (φ := .f32) (Ideal.ofBits .f32 0x3F4C422A#32
        * (u + Ideal.ofBits .f32 0x3D372713#32 * (u * u * u) : EReal)))) * v

/-- The gate of one slice of `n` columns as a kernel writes it. -/
def gateOps (n : ℕ) (u v : FVec Ideal (Mat 512 n) .f32) : FVec Ideal (Mat 512 n) .f32 :=
  mulf (mulf (mulf (broadcast (Mat 512 n) (Scalar.ofBits (F := Ideal) .f32 0x3F000000#32)) u)
    (addf (broadcast (Mat 512 n) (Scalar.ofBits (F := Ideal) .f32 0x3F800000#32))
      (tanh (mulf (broadcast (Mat 512 n) (Scalar.ofBits (F := Ideal) .f32 0x3F4C422A#32))
        (addf u (mulf (broadcast (Mat 512 n) (Scalar.ofBits (F := Ideal) .f32 0x3D372713#32)) (mulf (mulf u u) u))))))) v

theorem gateOps_apply (n : ℕ) (u v : FVec Ideal (Mat 512 n) .f32) (j : (Mat 512 n).Idx) :
    gateOps n u v j = gate (u j) (v j) := by
  unfold gateOps gate
  show ((Ideal.ofBits .f32 0x3F000000#32 * (u j : EReal)) * (Ideal.ofBits .f32 0x3F800000#32
    + FloatOps.tanh (F := Ideal) (φ := .f32) (Ideal.ofBits .f32 0x3F4C422A#32
        * ((u j : EReal) + Ideal.ofBits .f32 0x3D372713#32 * ((u j : EReal) * u j * u j) : EReal))) * v j : EReal) = _
  rw [mul_comm (Ideal.ofBits .f32 0x3F000000#32 : EReal) (u j), mul_assoc (u j : EReal)]

/-- One slice of the down product added to what is there, as a kernel writes it. -/
def downOps (n : ℕ) (acc : FVec Ideal (Mat 512 1024) .f32) (g : FVec Ideal (Mat 512 n) .f32)
    (w : FVec Ideal (Mat n 1024) .bf16) (hb : FTy.bf16.bits < FTy.f32.bits) (hs : (Mat n 1024).ShapeCasts (Mat n 1024)) :
    FVec Ideal (Mat 512 1024) .f32 :=
  addf acc (matmul (DotDims.plain 512 n 1024) none (truncf .bf16 g hb) (shapeCast (Mat n 1024) w hs)
    (constant (Mat 512 1024) .f32 0x00000000#32))

theorem downOps_apply (n : ℕ) (acc : FVec Ideal (Mat 512 1024) .f32) (g : FVec Ideal (Mat 512 n) .f32)
    (w : FVec Ideal (Mat n 1024) .bf16) (hb : FTy.bf16.bits < FTy.f32.bits) (hs : (Mat n 1024).ShapeCasts (Mat n 1024))
    (r : Fin 512) (c : Fin 1024) :
    downOps n acc g w hb hs (ix2 r c) = (acc (ix2 r c) + ∑ k : Fin n, g (ix2 r k) * w (ix2 k c) : EReal) := by
  unfold downOps
  rw [shapeCast_self]
  show (acc (ix2 r c) + FloatOps.matmul (DotDims.plain 512 n 1024) none (truncf .bf16 g hb) w
    (constant (F := Ideal) (Mat 512 1024) .f32 0x00000000#32) (ix2 r c) : EReal) = _
  rw [Ideal.matmul_plain_apply]
  show (acc (ix2 r c) + (Ideal.ofBits .f32 0x00000000#32 + ∑ k : Fin n, g (ix2 r k) * w (ix2 k c)) : EReal) = _
  rw [Ideal.ofBits_zero_f32, zero_add]

/-- One slice of the up product as a kernel writes it. -/
def upOps (n : ℕ) (h : FVec Ideal (Mat 512 1024) .bf16) (w : FVec Ideal (Mat 1024 n) .bf16)
    (hs : (Mat 1024 n).ShapeCasts (Mat 1024 n)) : FVec Ideal (Mat 512 n) .f32 :=
  matmul (DotDims.plain 512 1024 n) none h (shapeCast (Mat 1024 n) w hs) (constant (Mat 512 n) .f32 0x00000000#32)

theorem upOps_apply (n : ℕ) (h : FVec Ideal (Mat 512 1024) .bf16) (w : FVec Ideal (Mat 1024 n) .bf16)
    (hs : (Mat 1024 n).ShapeCasts (Mat 1024 n)) (r : Fin 512) (c : Fin n) :
    upOps n h w hs (ix2 r c) = (∑ k : Fin 1024, h (ix2 r k) * w (ix2 k c) : EReal) := by
  unfold upOps
  rw [shapeCast_self]
  show FloatOps.matmul (DotDims.plain 512 1024 n) none h w (constant (F := Ideal) (Mat 512 n) .f32 0x00000000#32) (ix2 r c) = _
  rw [Ideal.matmul_plain_apply]
  show (Ideal.ofBits .f32 0x00000000#32 + ∑ k : Fin 1024, h (ix2 r k) * w (ix2 k c) : EReal) = _
  rw [Ideal.ofBits_zero_f32, zero_add]

/-- A row divided by its root mean square, times a weight. -/
def rowNorm (x w : Fin 1024 → EReal) (k : Fin 1024) : EReal :=
  x k * FloatOps.rsqrt (F := Ideal) (φ := .f32) (FloatOps.divf (F := Ideal) (φ := .f32) (∑ j : Fin 1024, x j * x j)
    (Ideal.ofBits .f32 0x44800000#32) + Ideal.ofBits .f32 0x358637BD#32 : EReal) * w k

/-- A block divided row by row by its root mean square, as a kernel writes it. -/
def normOps (x : FVec Ideal (Mat 512 1024) .f32) (hr : (Mat 512 1024).Reduces [1] ⟨1, ![512]⟩)
    (hs : (⟨1, ![512]⟩ : Shape).ShapeCasts (Mat 512 1)) (hb : (Mat 512 1).Broadcasts (Mat 512 1024)) :
    FVec Ideal (Mat 512 1024) .f32 :=
  mulf x (broadcastTo (Mat 512 1024) (rsqrt (addf (divf (shapeCast (Mat 512 1)
      (multiReduction .add [1] ⟨1, ![512]⟩ (mulf x x) 0x00000000#32 hr (.inl rfl) rfl) hs)
      (broadcast (Mat 512 1) (Scalar.ofBits (F := Ideal) .f32 0x44800000#32)))
    (broadcast (Mat 512 1) (Scalar.ofBits (F := Ideal) .f32 0x358637BD#32)))) hb)

set_option backward.isDefEq.respectTransparency false in
theorem normOps_apply (x : FVec Ideal (Mat 512 1024) .f32) (hr : (Mat 512 1024).Reduces [1] ⟨1, ![512]⟩)
    (hs : (⟨1, ![512]⟩ : Shape).ShapeCasts (Mat 512 1)) (hb : (Mat 512 1).Broadcasts (Mat 512 1024))
    (r : Fin 512) (k : Fin 1024) :
    normOps x hr hs hb (ix2 r k) = (x (ix2 r k) * FloatOps.rsqrt (F := Ideal) (φ := .f32)
      (FloatOps.divf (F := Ideal) (φ := .f32) (∑ j : Fin 1024, (x (ix2 r j) * x (ix2 r j) : EReal))
      (Ideal.ofBits .f32 0x44800000#32) + Ideal.ofBits .f32 0x358637BD#32 : EReal) : EReal) := by
  unfold normOps
  show (x (ix2 r k) * broadcastTo (Mat 512 1024) _ hb (ix2 r k) : EReal) = _
  rw [broadcastTo_apply _ hb (ix2 r k) (ix2 r (0 : Fin 1)) (fun ax => by
    match ax with
    | ⟨0, _⟩ => rfl
    | ⟨1, _⟩ => rfl)]
  show (x (ix2 r k) * FloatOps.rsqrt (F := Ideal) (φ := .f32) (FloatOps.divf (F := Ideal) (φ := .f32)
    (shapeCast (Mat 512 1) _ hs (ix2 r (0 : Fin 1))) (Ideal.ofBits .f32 0x44800000#32) + Ideal.ofBits .f32 0x358637BD#32 : EReal) : EReal) = _
  rw [shapeCast_a_a1_apply, Ideal.multiReduction_add_single]
  have e : (∑ j : Fin ((Mat 512 1024).size 1), mulf x x (hr.lift (ix1 r) j) : EReal)
      = ∑ j : Fin 1024, (x (ix2 r j) * x (ix2 r j) : EReal) := by
    refine Finset.sum_congr rfl fun j _ => ?_
    have hj : hr.lift (ix1 r) j = ix2 r j := by
      funext a; apply Fin.ext
      match a with
      | ⟨0, _⟩ => rfl
      | ⟨1, _⟩ => rfl
    rw [hj]; rfl
  rw [e]

/-- One row of the up product. -/
def upRow (x n2 : Fin 1024 → EReal) (wup : Fin 1024 → Fin 5632 → EReal) (c : Fin 5632) : EReal :=
  ∑ k : Fin 1024, rowNorm x n2 k * wup k c

/-- The three-tap convolution at one column, from the row's up product and those of the two rows above. -/
def convAt (u p1 p2 : Fin 5632 → EReal) (cw : Fin 3 → Fin 5632 → EReal) (cb : Fin 5632 → EReal) (c : Fin 5632) : EReal :=
  u c * cw 2 c + cb c + p1 c * cw 1 c + p2 c * cw 0 c

/-- The gated value at one inner column. -/
def gateAt (u p1 p2 : Fin 5632 → EReal) (cw : Fin 3 → Fin 5632 → EReal) (cb : Fin 5632 → EReal) (k : Fin 2816) : EReal :=
  gate (convAt u p1 p2 cw cb ⟨k.val, by omega⟩) (convAt u p1 p2 cw cb ⟨k.val + 2816, by omega⟩)

/-- One row of the result: the row itself plus the down product, normed. -/
def rowOut (x : Fin 1024 → EReal) (u p1 p2 : Fin 5632 → EReal) (cw : Fin 3 → Fin 5632 → EReal) (cb : Fin 5632 → EReal)
    (wdn : Fin 2816 → Fin 1024 → EReal) (fin : Fin 1024 → EReal) (m : Fin 1024) : EReal :=
  rowNorm (fun c => x c + ∑ k : Fin 2816, gateAt u p1 p2 cw cb k * wdn k c) fin m

/-- The inner sum cut into the four slices a block works through. -/
theorem sum_slices (f : Fin 2816 → EReal) (a : EReal) :
    a + (∑ k : Fin 768, f ⟨0 + k.val, by omega⟩) + (∑ k : Fin 768, f ⟨768 + k.val, by omega⟩)
      + (∑ k : Fin 768, f ⟨1536 + k.val, by omega⟩) + (∑ k : Fin 512, f ⟨2304 + k.val, by omega⟩)
    = a + ∑ k : Fin 2816, f k := by
  let g : ℕ → EReal := fun k => if h : k < 2816 then f ⟨k, h⟩ else 0
  have hg : ∀ (n o : ℕ) (ho : o + n ≤ 2816), (∑ k : Fin n, f ⟨o + k.val, by omega⟩) = ∑ k ∈ Finset.range n, g (o + k) := by
    intro n o ho
    rw [← Fin.sum_univ_eq_sum_range (fun k => g (o + k)) n]
    refine Finset.sum_congr rfl fun k _ => ?_
    show _ = if h : o + k.val < 2816 then f ⟨o + k.val, h⟩ else 0
    rw [dif_pos (by omega)]
  have ht : (∑ k : Fin 2816, f k) = ∑ k ∈ Finset.range 2816, g k := by
    rw [← Fin.sum_univ_eq_sum_range g 2816]
    refine Finset.sum_congr rfl fun k _ => ?_
    show _ = if h : k.val < 2816 then f ⟨k.val, h⟩ else 0
    rw [dif_pos k.isLt]
  rw [hg 768 0 (by norm_num), hg 768 768 (by norm_num), hg 768 1536 (by norm_num), hg 512 2304 (by norm_num), ht,
    show (2816 : ℕ) = 768 + 768 + 768 + 512 from rfl, Finset.sum_range_add, Finset.sum_range_add, Finset.sum_range_add]
  simp only [Nat.zero_add, ← add_assoc, Nat.reduceAdd]

end Ffn

end
-- ==== Proof.KRead.lean ====
module

public import proofs.«01_k».proof.Proof.Gen.KernelIdeal.Value
public import proofs.«01_k».proof.Proof.Rows
public import Idealize.ShloMosaic.Lib.Pipeline.ReadBack

/-!
  What one grid point's stores leave in the output block and in the carried tail, as the composition of the row
  operations of `Rows`: the four column slices of the up product, their convolutions, gates and down products.
-/

@[expose] public section

set_option maxRecDepth 16384

noncomputable section

namespace Ffn

open Idealize.ShloMosaic Idealize.ShloMosaic.TcCoe Idealize.ShloMosaic.Tactic Idealize.ShloMosaic.ValueIdx
open Cert.KernelIdeal Cert.KernelIdeal.Gen

/-- A rectangle inside a matrix. -/
theorem inb2 {R N r0 o rows n : ℕ} (h1 : r0 + rows ≤ R) (h2 : o + n ≤ N) :
    ∀ a, (![r0, o] : Fin 2 → ℕ) a + (![rows, n] : Fin 2 → ℕ) a ≤ (Mat R N).size a :=
  fun a => match a with
    | ⟨0, _⟩ => h1
    | ⟨1, _⟩ => h2

/-- The `rows × n` rectangle of a matrix whose corner is `(r0, o)`. -/
abbrev sl {R N : ℕ} {e : EltTy} (X : Vec Ideal (Mat R N) e) (r0 o rows n : ℕ) (h1 : r0 + rows ≤ R) (h2 : o + n ≤ N) :
    Vec Ideal (Mat rows n) e :=
  View.ld X (Rect.unit (s := Mat R N) ![r0, o] ![rows, n] (inb2 h1 h2))

theorem sl_apply {R N : ℕ} {e : EltTy} (X : Vec Ideal (Mat R N) e) (r0 o rows n : ℕ) (h1 : r0 + rows ≤ R) (h2 : o + n ≤ N)
    (i : Fin rows) (k : Fin n) :
    sl X r0 o rows n h1 h2 (ix2 i k) = X (ix2 ⟨r0 + i.val, by omega⟩ ⟨o + k.val, by omega⟩) := by
  unfold sl
  rw [View.ld_unit]
  exact extractStridedSlice_apply _ _ _ _ _ fun a => match a with
    | ⟨0, _⟩ => rfl
    | ⟨1, _⟩ => rfl

/-- The shape conditions of a slice of `n` columns. -/
structure Fits (n : ℕ) : Prop where
  io : (Mat 512 n).Iotas .tc 32 [0]
  rot : (Mat 512 n).Rotates 0 none
  rot8 : (Mat 8 n).Rotates 0 none
  cat : Shape.Concatenates [Mat 8 n, Mat 504 n] (Mat 512 n) 0
  bc : (Mat 1 n).Broadcasts (Mat 512 n)
  one : (Mat 1 n).ShapeCasts (Mat 1 n)
  up : (Mat 1024 n).ShapeCasts (Mat 1024 n)
  down : (Mat n 1024).ShapeCasts (Mat n 1024)
  tail : (Mat 8 n).ShapeCasts (Mat 8 n)
  last : (Mat 512 n).Slices ![504, 0] (Mat 8 n)

theorem fits768 : Fits 768 :=
  ⟨iota_S512x768_d0_w32, rotates_S512x768_d0, rotates_S8x768_d0, concatenates_S8x768_S504x768_S512x768_d0,
    broadcasts_S1x768_S512x768, shapeCasts_S1x768_S1x768, shapeCasts_S1024x768_S1024x768, shapeCasts_S768x1024_S768x1024,
    shapeCasts_S8x768_S8x768, slices_S512x768_o504_0_S8x768⟩

theorem fits512 : Fits 512 :=
  ⟨iota_S512x512_d0_w32, rotates_S512x512_d0, rotates_S8x512_d0, concatenates_S8x512_S504x512_S512x512_d0,
    broadcasts_S1x512_S512x512, shapeCasts_S1x512_S1x512, shapeCasts_S1024x512_S1024x512, shapeCasts_S512x1024_S512x1024,
    shapeCasts_S8x512_S8x512, slices_S512x512_o504_0_S8x512⟩

section

variable (X : Vec Ideal S1x512x1024 .f32) (n2 : Vec Ideal S1x1024 .f32) (wup : Vec Ideal S1024x5632 .bf16)
  (cw : Vec Ideal S3x5632 .f32) (cb : Vec Ideal S1x5632 .f32) (wdn : Vec Ideal S2816x1024 .bf16)
  (fin : Vec Ideal S1x1024 .f32) (tail : Vec Ideal S8x5632 .f32)

/-- Columns `o … o+n-1` of the block's up product. -/
def upSlice (n o : ℕ) (f : Fits n) (ho : o + n ≤ 5632) : FVec Ideal (Mat 512 n) .f32 :=
  upOps n (k0_pay4 X n2) (sl (R := 1024) (N := 5632) wup 0 o 1024 n (by norm_num) ho) f.up

/-- Those columns convolved. -/
def convSlice (n o : ℕ) (f : Fits n) (ho : o + n ≤ 5632) : FVec Ideal (Mat 512 n) .f32 :=
  convOps n (upSlice X n2 wup n o f ho) (sl (R := 8) (N := 5632) tail 0 o 8 n (by norm_num) ho)
    (sl (R := 3) (N := 5632) cw 2 o 1 n (by norm_num) ho) (sl (R := 1) (N := 5632) cb 0 o 1 n (by norm_num) ho)
    (sl (R := 3) (N := 5632) cw 1 o 1 n (by norm_num) ho) (sl (R := 3) (N := 5632) cw 0 o 1 n (by norm_num) ho)
    f.io f.rot f.rot8 f.cat f.bc f.one

/-- The gated columns `o … o+n-1`, sent down and added to what is there. -/
def downSlice (acc : FVec Ideal (Mat 512 1024) .f32) (n o o' : ℕ) (f : Fits n) (ho : o + n ≤ 2816) (ho' : o' + n ≤ 5632) :
    FVec Ideal (Mat 512 1024) .f32 :=
  downOps n acc (gateOps n (convSlice X n2 wup cw cb tail n o f (by omega)) (convSlice X n2 wup cw cb tail n o' f ho'))
    (sl (R := 2816) (N := 1024) wdn o 0 n 1024 ho (by norm_num)) bitsLt_bf16_f32 f.down

/-- The block before its last norm. -/
def sumOps : FVec Ideal (Mat 512 1024) .f32 :=
  downSlice X n2 wup cw cb wdn tail (downSlice X n2 wup cw cb wdn tail (downSlice X n2 wup cw cb wdn tail
    (downSlice X n2 wup cw cb wdn tail (k0_pay3 X) 768 0 2816 fits768 (by norm_num) (by norm_num))
      768 768 3584 fits768 (by norm_num) (by norm_num)) 768 1536 4352 fits768 (by norm_num) (by norm_num))
      512 2304 5120 fits512 (by norm_num) (by norm_num)

/-- The block a point leaves. -/
def blockOps : Vec Ideal S1x512x1024 .f32 :=
  k0_pay1 (F := Ideal) (k0_pay45 fin) (normOps (sumOps X n2 wup cw cb wdn tail) reduces_S512x1024_S512 shapeCasts_S512_S512x1 broadcasts_S512x1_S512x1024)

/-- The last eight rows of those columns of the up product. -/
def tailSlice (n o : ℕ) (f : Fits n) (ho : o + n ≤ 5632) : FVec Ideal (Mat 8 n) .f32 :=
  shapeCast (Mat 8 n) (extractStridedSlice (Mat 8 n) ![504, 0] (upSlice X n2 wup n o f ho) f.last) f.tail

/-- The stores a point makes into the tail, last first. -/
def tailPieces : List (View.Piece (Elt Ideal) S8x5632 .f32) :=
  [⟨Rect.unit (s := S8x5632) ![0, 5120] ![8, 512] (inb2 (by norm_num) (by norm_num)), tailSlice X n2 wup 512 5120 fits512 (by norm_num)⟩,
   ⟨Rect.unit (s := S8x5632) ![0, 2304] ![8, 512] (inb2 (by norm_num) (by norm_num)), tailSlice X n2 wup 512 2304 fits512 (by norm_num)⟩,
   ⟨Rect.unit (s := S8x5632) ![0, 4352] ![8, 768] (inb2 (by norm_num) (by norm_num)), tailSlice X n2 wup 768 4352 fits768 (by norm_num)⟩,
   ⟨Rect.unit (s := S8x5632) ![0, 1536] ![8, 768] (inb2 (by norm_num) (by norm_num)), tailSlice X n2 wup 768 1536 fits768 (by norm_num)⟩,
   ⟨Rect.unit (s := S8x5632) ![0, 3584] ![8, 768] (inb2 (by norm_num) (by norm_num)), tailSlice X n2 wup 768 3584 fits768 (by norm_num)⟩,
   ⟨Rect.unit (s := S8x5632) ![0, 768] ![8, 768] (inb2 (by norm_num) (by norm_num)), tailSlice X n2 wup 768 768 fits768 (by norm_num)⟩,
   ⟨Rect.unit (s := S8x5632) ![0, 2816] ![8, 768] (inb2 (by norm_num) (by norm_num)), tailSlice X n2 wup 768 2816 fits768 (by norm_num)⟩,
   ⟨Rect.unit (s := S8x5632) ![0, 0] ![8, 768] (inb2 (by norm_num) (by norm_num)), tailSlice X n2 wup 768 0 fits768 (by norm_num)⟩]

end

section

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x5632 .f32) (harg10 : arg10.IsWhole)
  (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S8x5632 .f32)

theorem outB_eq (hc0 : ¬cond0_0 i) :
    out0_B_7 c i arg2 harg2 arg3 harg3 arg4 harg4 arg5 harg5 arg6 harg6 arg7 harg7 arg8 harg8 arg9 harg9 arg10 harg10 hc0 x0 x1 x2 x3 x4 x5 x6 xs0
      = blockOps x0 x1 x2 x3 x4 x5 x6 xs0 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  rw [View.canon_unit_zero (by funext a; match a with | ⟨0, _⟩ => rfl | ⟨1, _⟩ => rfl | ⟨2, _⟩ => rfl)]
  rw [show View.ld x0 (Rect.unit ![0, 0, 0] ![1, 512, 1024] inb_S1x512x1024_S1x512x1024_0_0_0) = x0 from
      View.ld_unit_zero (by funext a; match a with | ⟨0, _⟩ => rfl | ⟨1, _⟩ => rfl | ⟨2, _⟩ => rfl) _ _,
    show View.ld x1 (Rect.unit ![0, 0] ![1, 1024] inb_S1x1024_S1x1024_0_0) = x1 from
      View.ld_unit_zero (by funext a; match a with | ⟨0, _⟩ => rfl | ⟨1, _⟩ => rfl) _ _,
    show View.ld x6 (Rect.unit ![0, 0] ![1, 1024] inb_S1x1024_S1x1024_0_0) = x6 from
      View.ld_unit_zero (by funext a; match a with | ⟨0, _⟩ => rfl | ⟨1, _⟩ => rfl) _ _]
  rfl

theorem outA_eq (hc0 : cond0_0 i) :
    out0_A_7 c i arg2 harg2 arg3 harg3 arg4 harg4 arg5 harg5 arg6 harg6 arg7 harg7 arg8 harg8 arg9 harg9 arg10 harg10 hc0 x0 x1 x2 x3 x4 x5 x6
      = blockOps x0 x1 x2 x3 x4 x5 x6 (k0_pay2 (F := Ideal)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp (disch := decide) only [↓View.readCov_skip, ↓View.readCov_fill, View.readAt_eq_ld, harg2.read_unread, harg3.read_unread, harg4.read_unread, harg5.read_unread, harg6.read_unread, harg7.read_unread, harg8.read_unread]
  rw [View.canon_unit_zero (by funext a; match a with | ⟨0, _⟩ => rfl | ⟨1, _⟩ => rfl | ⟨2, _⟩ => rfl)]
  rw [show View.ld x0 (Rect.unit ![0, 0, 0] ![1, 512, 1024] inb_S1x512x1024_S1x512x1024_0_0_0) = x0 from
      View.ld_unit_zero (by funext a; match a with | ⟨0, _⟩ => rfl | ⟨1, _⟩ => rfl | ⟨2, _⟩ => rfl) _ _,
    show View.ld x1 (Rect.unit ![0, 0] ![1, 1024] inb_S1x1024_S1x1024_0_0) = x1 from
      View.ld_unit_zero (by funext a; match a with | ⟨0, _⟩ => rfl | ⟨1, _⟩ => rfl) _ _,
    show View.ld x6 (Rect.unit ![0, 0] ![1, 1024] inb_S1x1024_S1x1024_0_0) = x6 from
      View.ld_unit_zero (by funext a; match a with | ⟨0, _⟩ => rfl | ⟨1, _⟩ => rfl) _ _]
  rfl

theorem soutB_eq (hc0 : ¬cond0_0 i) :
    sout0_B_0 c i arg2 harg2 arg3 harg3 arg4 harg4 arg5 harg5 arg6 harg6 arg7 harg7 arg8 harg8 arg9 harg9 arg10 harg10 hc0 x0 x1 x2 x3 x4 x5 x6 xs0
      = View.canon (tailPieces x0 x1 x2) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  rw [show View.ld x0 (Rect.unit ![0, 0, 0] ![1, 512, 1024] inb_S1x512x1024_S1x512x1024_0_0_0) = x0 from
      View.ld_unit_zero (by funext a; match a with | ⟨0, _⟩ => rfl | ⟨1, _⟩ => rfl | ⟨2, _⟩ => rfl) _ _,
    show View.ld x1 (Rect.unit ![0, 0] ![1, 1024] inb_S1x1024_S1x1024_0_0) = x1 from
      View.ld_unit_zero (by funext a; match a with | ⟨0, _⟩ => rfl | ⟨1, _⟩ => rfl) _ _]
  rfl

theorem soutA_eq (hc0 : cond0_0 i) :
    sout0_A_0 c i arg2 harg2 arg3 harg3 arg4 harg4 arg5 harg5 arg6 harg6 arg7 harg7 arg8 harg8 arg9 harg9 arg10 harg10 hc0 x0 x1 x2 x3 x4 x5 x6
      = View.canon (tailPieces x0 x1 x2 ++ [⟨Rect.unit (s := S8x5632) ![0, 0] ![8, 5632] inb_S8x5632_S8x5632_0_0, k0_pay2 (F := Ideal)⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  rw [show View.ld x0 (Rect.unit ![0, 0, 0] ![1, 512, 1024] inb_S1x512x1024_S1x512x1024_0_0_0) = x0 from
      View.ld_unit_zero (by funext a; match a with | ⟨0, _⟩ => rfl | ⟨1, _⟩ => rfl | ⟨2, _⟩ => rfl) _ _,
    show View.ld x1 (Rect.unit ![0, 0] ![1, 1024] inb_S1x1024_S1x1024_0_0) = x1 from
      View.ld_unit_zero (by funext a; match a with | ⟨0, _⟩ => rfl | ⟨1, _⟩ => rfl) _ _]
  rfl

end

end Ffn

end
-- ==== Proof.KBlock.lean ====
module

public import proofs.«01_k».proof.Proof.KRead

/-!
  The block a grid point leaves, and the tail it carries on, read at an index: each row of the block is `rowOut` of
  that row of the input and of the up products of it and of the two rows above.
-/

@[expose] public section

set_option maxRecDepth 16384

noncomputable section

namespace Ffn

open Idealize.ShloMosaic Idealize.ShloMosaic.TcCoe Idealize.ShloMosaic.ValueIdx
open Cert.KernelIdeal Cert.KernelIdeal.Gen
open scoped BigOperators

variable (X : Vec Ideal S1x512x1024 .f32) (n2 : Vec Ideal S1x1024 .f32) (wup : Vec Ideal S1024x5632 .bf16)
  (cw : Vec Ideal S3x5632 .f32) (cb : Vec Ideal S1x5632 .f32) (wdn : Vec Ideal S2816x1024 .bf16)
  (fin : Vec Ideal S1x1024 .f32) (tail : Vec Ideal S8x5632 .f32)

/-- Row `r` of the block. -/
def row (r : Fin 512) : Fin 1024 → EReal := fun j => X (ix3 (0 : Fin 1) r j)

/-- A one-row array as a function of the column. -/
def flat {n : ℕ} (w : (Mat 1 n).Idx → EReal) : Fin n → EReal := fun j => w (ix2 (0 : Fin 1) j)

/-- A matrix as a function of row and column. -/
def mat {a b : ℕ} (w : (Mat a b).Idx → EReal) : Fin a → Fin b → EReal := fun i j => w (ix2 i j)

/-- The up products of the block's rows. -/
def ups (r : Fin 512) : Fin 5632 → EReal := upRow (row X r) (flat n2) (mat wup)

theorem pay3_apply (r : Fin 512) (k : Fin 1024) : k0_pay3 (F := Ideal) X (ix2 r k) = row X r k :=
  shapeCast_1ab_ab_apply X shapeCasts_S1x512x1024_S512x1024 r k

theorem pay4_apply (r : Fin 512) (k : Fin 1024) : k0_pay4 (F := Ideal) X n2 (ix2 r k) = rowNorm (row X r) (flat n2) k := by
  show (normOps (k0_pay3 X) reduces_S512x1024_S512 shapeCasts_S512_S512x1 broadcasts_S512x1_S512x1024 (ix2 r k)
    * broadcastTo S512x1024 (shapeCast S1x1024 n2 shapeCasts_S1x1024_S1x1024) broadcasts_S1x1024_S512x1024 (ix2 r k) : EReal) = _
  rw [normOps_apply, shapeCast_self, broadcastTo_1b_ab_apply]
  simp only [pay3_apply]
  rfl

theorem upSlice_apply (n o : ℕ) (f : Fits n) (ho : o + n ≤ 5632) (r : Fin 512) (q : Fin n) :
    upSlice X n2 wup n o f ho (ix2 r q) = ups X n2 wup r ⟨o + q.val, by omega⟩ := by
  unfold upSlice
  rw [upOps_apply]
  unfold ups upRow
  refine Finset.sum_congr rfl fun k _ => ?_
  rw [pay4_apply, sl_apply]
  simp only [Nat.zero_add]
  rfl

/-- The rows above row `r`, from the tail where they fall outside the block. -/
def above (s : ℕ) (r : Fin 512) : Fin 5632 → EReal := shifted s (mat tail) (ups X n2 wup) r

theorem convSlice_apply (n o : ℕ) (f : Fits n) (ho : o + n ≤ 5632) (r : Fin 512) (q : Fin n) :
    convSlice X n2 wup cw cb tail n o f ho (ix2 r q)
      = convAt (ups X n2 wup r) (above X n2 wup tail 1 r) (above X n2 wup tail 2 r) (mat cw) (flat cb) ⟨o + q.val, by omega⟩ := by
  unfold convSlice
  rw [convOps_apply]
  have hs : ∀ s : ℕ, shifted s (fun i k => sl (R := 8) (N := 5632) tail 0 o 8 n (by norm_num) ho (ix2 i k))
      (fun i k => upSlice X n2 wup n o f ho (ix2 i k)) r q = above X n2 wup tail s r ⟨o + q.val, by omega⟩ := by
    intro s
    unfold above shifted
    split
    · show sl (R := 8) (N := 5632) tail 0 o 8 n (by norm_num) ho (ix2 _ q) = _
      rw [sl_apply]; simp only [Nat.zero_add]; rfl
    · exact upSlice_apply X n2 wup n o f ho _ q
  rw [hs, hs, upSlice_apply, sl_apply, sl_apply, sl_apply, sl_apply]
  rfl

theorem downSlice_apply (acc : FVec Ideal (Mat 512 1024) .f32) (n o : ℕ) (f : Fits n) (ho : o + n ≤ 2816)
    (o' : ℕ) (ho' : o' + n ≤ 5632) (e : o' = o + 2816) (r : Fin 512) (m : Fin 1024) :
    downSlice X n2 wup cw cb wdn tail acc n o o' f ho ho' (ix2 r m)
      = (acc (ix2 r m) + ∑ k : Fin n, (fun k' : Fin 2816 =>
        gateAt (ups X n2 wup r) (above X n2 wup tail 1 r) (above X n2 wup tail 2 r) (mat cw) (flat cb) k' * mat wdn k' m)
          ⟨o + k.val, by omega⟩ : EReal) := by
  subst e
  unfold downSlice
  rw [downOps_apply]
  refine congrArg (fun t : EReal => (acc (ix2 r m) + t : EReal)) (Finset.sum_congr rfl fun k _ => ?_)
  rw [gateOps_apply, convSlice_apply, convSlice_apply, sl_apply]
  have e1 : (⟨o + 2816 + k.val, by omega⟩ : Fin 5632) = ⟨o + k.val + 2816, by omega⟩ := Fin.ext (by show o + 2816 + k.val = o + k.val + 2816; omega)
  have e2 : (⟨0 + m.val, by omega⟩ : Fin 1024) = m := Fin.ext (Nat.zero_add _)
  rw [e1, e2]
  rfl

theorem sumOps_apply (r : Fin 512) (m : Fin 1024) :
    sumOps X n2 wup cw cb wdn tail (ix2 r m) = (row X r m + ∑ k : Fin 2816,
      gateAt (ups X n2 wup r) (above X n2 wup tail 1 r) (above X n2 wup tail 2 r) (mat cw) (flat cb) k * mat wdn k m : EReal) := by
  have h1 := downSlice_apply X n2 wup cw cb wdn tail (k0_pay3 X) 768 0 fits768 (by norm_num) 2816 (by norm_num) (by norm_num) r m
  rw [pay3_apply] at h1
  have h2 := (downSlice_apply X n2 wup cw cb wdn tail _ 768 768 fits768 (by norm_num) 3584 (by norm_num) (by norm_num) r m).trans
    (congrArg (fun t : EReal => (t + _ : EReal)) h1)
  have h3 := (downSlice_apply X n2 wup cw cb wdn tail _ 768 1536 fits768 (by norm_num) 4352 (by norm_num) (by norm_num) r m).trans
    (congrArg (fun t : EReal => (t + _ : EReal)) h2)
  have h4 := (downSlice_apply X n2 wup cw cb wdn tail _ 512 2304 fits512 (by norm_num) 5120 (by norm_num) (by norm_num) r m).trans
    (congrArg (fun t : EReal => (t + _ : EReal)) h3)
  exact h4.trans (sum_slices (fun k' => gateAt (ups X n2 wup r) (above X n2 wup tail 1 r) (above X n2 wup tail 2 r) (mat cw) (flat cb) k'
    * mat wdn k' m) (row X r m))

/-- **The block a point leaves**, row by row. -/
theorem blockOps_apply (u : Fin 1) (r : Fin 512) (m : Fin 1024) :
    blockOps X n2 wup cw cb wdn fin tail (ix3 u r m)
      = rowOut (row X r) (ups X n2 wup r) (above X n2 wup tail 1 r) (above X n2 wup tail 2 r) (mat cw) (flat cb) (mat wdn) (flat fin) m := by
  unfold blockOps
  show shapeCast S1x512x1024 (mulf (normOps (sumOps X n2 wup cw cb wdn tail) reduces_S512x1024_S512 shapeCasts_S512_S512x1
    broadcasts_S512x1_S512x1024) (broadcastTo S512x1024 (shapeCast S1x1024 fin shapeCasts_S1x1024_S1x1024) broadcasts_S1x1024_S512x1024))
    shapeCasts_S512x1024_S1x512x1024 (ix3 u r m) = _
  rw [shapeCast_ab_1ab_apply, shapeCast_self]
  show (normOps (sumOps X n2 wup cw cb wdn tail) reduces_S512x1024_S512 shapeCasts_S512_S512x1
    broadcasts_S512x1_S512x1024 (ix2 r m) * broadcastTo S512x1024 fin broadcasts_S1x1024_S512x1024 (ix2 r m) : EReal) = _
  rw [normOps_apply, broadcastTo_1b_ab_apply]
  simp only [sumOps_apply]
  rfl

/-- The tail a point carries on: the up products of its last eight rows. -/
def tailG : Vec Ideal S8x5632 .f32 := fun j => ups X n2 wup ⟨504 + (j 0).val, by have := (j 0).isLt; show 504 + (j 0).val < 512; have h : (j 0).val < 8 := (j 0).isLt; omega⟩ (j 1)

theorem tailSlice_eq (n o : ℕ) (f : Fits n) (ho : o + n ≤ 5632) (x : (Mat 8 n).Idx) :
    tailSlice X n2 wup n o f ho x
      = tailG X n2 wup ((Rect.unit (s := S8x5632) ![0, o] ![8, n] (inb2 (by norm_num) ho)).emb x) := by
  obtain ⟨i, q, rfl⟩ : ∃ (i : Fin 8) (q : Fin n), x = ix2 i q := ⟨x 0, x 1, eq_ix2 x⟩
  unfold tailSlice
  rw [shapeCast_self, extractStridedSlice_apply (s := Mat 512 n) (t := Mat 8 n) _ _ f.last (ix2 i q) (ix2 ⟨504 + i.val, by omega⟩ q)
    (fun a => match a with
      | ⟨0, _⟩ => rfl
      | ⟨1, _⟩ => (Nat.zero_add _).symm), upSlice_apply]
  unfold tailG
  congr 1
  · congr 1
    show 504 + i.val = 504 + (0 + 1 * i.val)
    omega
  · apply Fin.ext
    show o + q.val = o + 1 * q.val
    omega

theorem tailPieces_of : View.PiecesOf (tailG X n2 wup) (tailPieces X n2 wup) :=
  ⟨tailSlice_eq X n2 wup 512 5120 fits512 (by norm_num), tailSlice_eq X n2 wup 512 2304 fits512 (by norm_num),
    tailSlice_eq X n2 wup 768 4352 fits768 (by norm_num), tailSlice_eq X n2 wup 768 1536 fits768 (by norm_num),
    tailSlice_eq X n2 wup 768 3584 fits768 (by norm_num), tailSlice_eq X n2 wup 768 768 fits768 (by norm_num),
    tailSlice_eq X n2 wup 768 2816 fits768 (by norm_num), tailSlice_eq X n2 wup 768 0 fits768 (by norm_num), trivial⟩

open Idealize.ShloMosaic.Tactic in
theorem tailPieces_cover (y : S8x5632.Idx) : ∃ pc ∈ tailPieces X n2 wup, y ∈ pc.1.set :=
  View.cover_of_tiledBy (tailPieces X n2 wup) ![8, 256] (by sl_kernel_rfl) y

theorem canon_tail (L : List (View.Piece (Elt Ideal) S8x5632 .f32)) :
    View.canon (tailPieces X n2 wup ++ L) = tailG X n2 wup :=
  funext fun y => View.canon_append_of_piecesOf _ L _ (tailPieces_of X n2 wup) y (tailPieces_cover X n2 wup y)

end Ffn

end
-- ==== Proof.FfnRef.lean ====
module

public import proofs.«01_k».proof.Proof.Gen.ReferenceIdeal.Read
public import proofs.«01_k».proof.Proof.Rows

/-!
  The reference read at an index: the row at `(b, l)` is `rowOut` of that row of the input and of the up products of
  it and of the two rows above, zero where there is no row above.
-/

@[expose] public section

set_option maxRecDepth 16384

noncomputable section

namespace Ffn

open Idealize.ShloMosaic Idealize.ShloMosaic.TcCoe Idealize.ShloMosaic.ValueIdx
open Cert.ReferenceIdeal Cert.ReferenceIdeal.Read
open scoped BigOperators

section

variable (x0 : Vec Ideal S16x4096x1024 .f32) (x1 : Vec Ideal S1024 .f32) (x2 : Vec Ideal S1024x5632 .f32)
  (x3 : Vec Ideal S3x5632 .f32) (x4 : Vec Ideal S5632 .f32) (x5 : Vec Ideal S2816x1024 .f32) (x6 : Vec Ideal S1024 .f32)

/-- Row `l` of batch member `b`. -/
def seqRow (b : Fin 16) (l : Fin 4096) : Fin 1024 → EReal := fun j => x0 (ix3 b l j)

/-- A vector as a function of its index. -/
def vec {n : ℕ} (w : (⟨1, ![n]⟩ : Shape).Idx → EReal) : Fin n → EReal := fun j => w (ix1 j)

/-- The up product at a row of the sequence. -/
def seqUp (b : Fin 16) (l : Fin 4096) : Fin 5632 → EReal :=
  upRow (seqRow x0 b l) (vec x1) (fun i j => x2 (ix2 i j))

/-- The up product `s` rows above, zero above the first row. -/
def seqAbove (s : ℕ) (b : Fin 16) (l : Fin 4096) (c : Fin 5632) : EReal :=
  if h : l.val < s then 0 else seqUp x0 x1 x2 b ⟨l.val - s, by omega⟩ c

/-- The whole result at `(b, l, m)`. -/
def seqOut (b : Fin 16) (l : Fin 4096) (m : Fin 1024) : EReal :=
  rowOut (seqRow x0 b l) (seqUp x0 x1 x2 b l) (seqAbove x0 x1 x2 1 b l) (seqAbove x0 x1 x2 2 b l)
    (fun i j => x3 (ix2 i j)) (vec x4) (fun i j => x5 (ix2 i j)) (vec x6) m

theorem v12_apply (b : Fin 16) (l : Fin 4096) (k : Fin 1024) :
    val_main_v12 (F := Ideal) x0 x1 (ix3 b l k) = rowNorm (seqRow x0 b l) (vec x1) k := by
  have hs : (val_main_v1 (F := Ideal) x0 (ix2 b l) : EReal) = ∑ j : Fin 1024, seqRow x0 b l j * seqRow x0 b l j := by
    rw [val_main_v1_apply]
    show (Ideal.ofBits .f32 0x00000000#32 + _ : EReal) = _
    rw [Ideal.ofBits_zero_f32, zero_add]
    refine Finset.sum_congr rfl fun j _ => ?_
    rw [show idx_main_v1 (ix2 b l) j = ix3 b l j by funext a; match a with | ⟨0, _⟩ => rfl | ⟨1, _⟩ => rfl | ⟨2, _⟩ => rfl]
    rfl
  have hm : val_main_v8 (F := Ideal) x0 (ix3 b l k) = FloatOps.rsqrt (F := Ideal) (φ := .f32)
      (FloatOps.divf (F := Ideal) (φ := .f32) (∑ j : Fin 1024, (seqRow x0 b l j * seqRow x0 b l j : EReal))
        (Ideal.ofBits .f32 0x44800000#32) + Ideal.ofBits .f32 0x358637BD#32 : EReal) := by
    rw [val_main_v8_apply, val_main_v7_apply, val_main_v6_apply, val_main_v4_apply, val_main_v2_apply,
      show idx_main_v2 (idx_main_v8 (ix3 b l k)) = ix2 b l by funext a; match a with | ⟨0, _⟩ => rfl | ⟨1, _⟩ => rfl, hs,
      val_main_v3_apply, val_main_v5_apply]
    rfl
  rw [val_main_v12_apply, val_main_v9_apply, hm, val_main_v11_apply, val_main_v10_apply]
  unfold rowNorm
  show (x0 (ix3 b l k) * _ * x1 _ : EReal) = _
  rw [show idx_main_v10 (idx_main_v11 (ix3 b l k)) = ix1 k by funext a; match a with | ⟨0, _⟩ => rfl]
  rfl

theorem v13_apply (b : Fin 16) (l : Fin 4096) (c : Fin 5632) :
    val_main_v13 (F := Ideal) x0 x1 x2 (ix3 b l c) = seqUp x0 x1 x2 b l c := by
  rw [val_main_v13_apply]
  unfold seqUp upRow
  refine Finset.sum_congr rfl fun k _ => ?_
  rw [show lidx_main_v13 (ix3 b l c) k = ix3 b l k by funext a; match a with | ⟨0, _⟩ => rfl | ⟨1, _⟩ => rfl | ⟨2, _⟩ => rfl,
    show ridx_main_v13 (ix3 b l c) k = ix2 k c by funext a; match a with | ⟨0, _⟩ => rfl | ⟨1, _⟩ => rfl, v12_apply]

theorem v14_apply (s : ℕ) (hs : s ≤ 2) (b : Fin 16) (l : Fin 4096) (c : Fin 5632) :
    val_main_v14 (F := Ideal) x0 x1 x2 (ix3 b ⟨l.val + (2 - s), by omega⟩ c) = seqAbove x0 x1 x2 s b l c := by
  unfold val_main_v14 seqAbove
  by_cases h : l.val < s
  · rw [dif_pos h, pad_apply_of_not_inside (s := S16x4096x5632) (t := S16x4098x5632) _ _ _ _ _ _ _ _ (1 : Fin 3) (by
      intro hh
      have h1 : 2 ≤ l.val + (2 - s) := hh.1
      omega)]
    show (((0#32 : BitVec 32).toInt : ℝ) : EReal) = 0
    simp
  · rw [dif_neg h, pad_apply_of_inside (s := S16x4096x5632) (t := S16x4098x5632) _ _ _ _ _ _ _ _ (ix3 b ⟨l.val - s, by omega⟩ c) (fun a => by
      match a with
      | ⟨0, _⟩ => show b.val = 0 + b.val * (0 + 1); omega
      | ⟨1, _⟩ => show l.val + (2 - s) = 2 + (l.val - s) * (0 + 1); omega
      | ⟨2, _⟩ => show c.val = 0 + c.val * (0 + 1); omega), v13_apply]

theorem v39_apply (b : Fin 16) (l : Fin 4096) (c : Fin 5632) :
    val_main_v39 (F := Ideal) x0 x1 x2 x3 x4 (ix3 b l c)
      = convAt (seqUp x0 x1 x2 b l) (seqAbove x0 x1 x2 1 b l) (seqAbove x0 x1 x2 2 b l) (fun i j => x3 (ix2 i j)) (vec x4) c := by
  have e2 : val_main_v15 (F := Ideal) x0 x1 x2 (ix3 b l c) = seqAbove x0 x1 x2 2 b l c := by
    rw [val_main_v15_apply, ← v14_apply x0 x1 x2 2 (by norm_num)]
    congr 1; funext a; apply Fin.ext; match a with | ⟨0, _⟩ => rfl | ⟨1, _⟩ => rfl | ⟨2, _⟩ => rfl
  have e1 : val_main_v23 (F := Ideal) x0 x1 x2 (ix3 b l c) = seqAbove x0 x1 x2 1 b l c := by
    rw [val_main_v23_apply, ← v14_apply x0 x1 x2 1 (by norm_num)]
    congr 1; funext a; apply Fin.ext; match a with | ⟨0, _⟩ => rfl | ⟨1, _⟩ => (first | rfl | exact Nat.add_comm _ _) | ⟨2, _⟩ => rfl
  have e0 : val_main_v30 (F := Ideal) x0 x1 x2 (ix3 b l c) = seqUp x0 x1 x2 b l c := by
    have h0 : seqAbove x0 x1 x2 0 b l c = seqUp x0 x1 x2 b l c := by unfold seqAbove; rw [dif_neg (by omega)]; rfl
    rw [val_main_v30_apply, ← h0, ← v14_apply x0 x1 x2 0 (by norm_num)]
    congr 1; funext a; apply Fin.ext; match a with | ⟨0, _⟩ => rfl | ⟨1, _⟩ => (first | rfl | exact Nat.add_comm _ _) | ⟨2, _⟩ => rfl
  have w0 : val_main_v19 (F := Ideal) x3 (ix3 b l c) = x3 (ix2 (0 : Fin 3) c) := by
    rw [val_main_v19_apply, val_main_v18_apply, val_main_v17_apply, val_main_v16_apply]
    congr 1; funext a; apply Fin.ext; match a with | ⟨0, _⟩ => rfl | ⟨1, _⟩ => simp
  have w1 : val_main_v27 (F := Ideal) x3 (ix3 b l c) = x3 (ix2 (1 : Fin 3) c) := by
    rw [val_main_v27_apply, val_main_v26_apply, val_main_v25_apply, val_main_v24_apply]
    congr 1; funext a; apply Fin.ext; match a with | ⟨0, _⟩ => rfl | ⟨1, _⟩ => simp
  have w2 : val_main_v34 (F := Ideal) x3 (ix3 b l c) = x3 (ix2 (2 : Fin 3) c) := by
    rw [val_main_v34_apply, val_main_v33_apply, val_main_v32_apply, val_main_v31_apply]
    congr 1; funext a; apply Fin.ext; match a with | ⟨0, _⟩ => rfl | ⟨1, _⟩ => simp
  have wb : val_main_v38 (F := Ideal) x4 (ix3 b l c) = x4 (ix1 c) := by
    rw [val_main_v38_apply, val_main_v37_apply]
    congr 1; funext a; match a with | ⟨0, _⟩ => rfl
  rw [val_main_v39_apply, val_main_v36_apply, val_main_v29_apply, val_main_v22_apply, val_main_v20_apply, val_main_v28_apply,
    val_main_v35_apply, e0, e1, e2, w0, w1, w2, wb]
  show (Ideal.ofBits .f32 0x00000000#32 + seqAbove x0 x1 x2 2 b l c * x3 (ix2 (0 : Fin 3) c)
    + seqAbove x0 x1 x2 1 b l c * x3 (ix2 (1 : Fin 3) c) + seqUp x0 x1 x2 b l c * x3 (ix2 (2 : Fin 3) c) + x4 (ix1 c) : EReal)
    = seqUp x0 x1 x2 b l c * x3 (ix2 (2 : Fin 3) c) + x4 (ix1 c) + seqAbove x0 x1 x2 1 b l c * x3 (ix2 (1 : Fin 3) c)
      + seqAbove x0 x1 x2 2 b l c * x3 (ix2 (0 : Fin 3) c)
  rw [Ideal.ofBits_zero_f32, zero_add]
  ac_rfl

theorem v55_apply (b : Fin 16) (l : Fin 4096) (k : Fin 2816) :
    val_main_v55 (F := Ideal) x0 x1 x2 x3 x4 (ix3 b l k)
      = gateAt (seqUp x0 x1 x2 b l) (seqAbove x0 x1 x2 1 b l) (seqAbove x0 x1 x2 2 b l) (fun i j => x3 (ix2 i j)) (vec x4) k := by
  have hu : val_main_v40 (F := Ideal) x0 x1 x2 x3 x4 (ix3 b l k) = convAt (seqUp x0 x1 x2 b l) (seqAbove x0 x1 x2 1 b l)
      (seqAbove x0 x1 x2 2 b l) (fun i j => x3 (ix2 i j)) (vec x4) ⟨k.val, by omega⟩ := by
    rw [val_main_v40_apply, ← v39_apply]
    congr 1; funext a; apply Fin.ext; match a with | ⟨0, _⟩ => rfl | ⟨1, _⟩ => rfl | ⟨2, _⟩ => rfl
  have hv : val_main_v41 (F := Ideal) x0 x1 x2 x3 x4 (ix3 b l k) = convAt (seqUp x0 x1 x2 b l) (seqAbove x0 x1 x2 1 b l)
      (seqAbove x0 x1 x2 2 b l) (fun i j => x3 (ix2 i j)) (vec x4) ⟨k.val + 2816, by omega⟩ := by
    rw [val_main_v41_apply, ← v39_apply]
    congr 1; funext a; apply Fin.ext
    match a with | ⟨0, _⟩ => rfl | ⟨1, _⟩ => rfl | ⟨2, _⟩ => (first | rfl | exact Nat.add_comm _ _)
  rw [val_main_v55_apply, val_main_v54_apply, val_main_v53_apply, val_main_v51_apply, val_main_v49_apply, val_main_v48_apply,
    val_main_v46_apply, val_main_v45_apply, val_main_v43_apply, val_main_v42_apply, hu, hv]
  rfl

theorem v57_apply (b : Fin 16) (l : Fin 4096) (m : Fin 1024) :
    val_main_v57 (F := Ideal) x0 x1 x2 x3 x4 x5 (ix3 b l m)
      = (seqRow x0 b l m + ∑ k : Fin 2816, gateAt (seqUp x0 x1 x2 b l) (seqAbove x0 x1 x2 1 b l) (seqAbove x0 x1 x2 2 b l)
          (fun i j => x3 (ix2 i j)) (vec x4) k * x5 (ix2 k m) : EReal) := by
  rw [val_main_v57_apply, val_main_v56_apply]
  refine congrArg (fun t : EReal => (seqRow x0 b l m + t : EReal)) (Finset.sum_congr rfl fun k _ => ?_)
  rw [show lidx_main_v56 (ix3 b l m) k = ix3 b l k by funext a; match a with | ⟨0, _⟩ => rfl | ⟨1, _⟩ => rfl | ⟨2, _⟩ => rfl,
    show ridx_main_v56 (ix3 b l m) k = ix2 k m by funext a; match a with | ⟨0, _⟩ => rfl | ⟨1, _⟩ => rfl, v55_apply]

/-- **The reference's result** at `(b, l, m)`. -/
theorem v70_apply (b : Fin 16) (l : Fin 4096) (m : Fin 1024) :
    val_main_v70 (F := Ideal) x0 x1 x2 x3 x4 x5 x6 (ix3 b l m) = seqOut x0 x1 x2 x3 x4 x5 x6 b l m := by
  have hs : (val_main_v59 (F := Ideal) x0 x1 x2 x3 x4 x5 (ix2 b l) : EReal) = ∑ j : Fin 1024,
      (val_main_v57 (F := Ideal) x0 x1 x2 x3 x4 x5 (ix3 b l j) * val_main_v57 (F := Ideal) x0 x1 x2 x3 x4 x5 (ix3 b l j) : EReal) := by
    rw [val_main_v59_apply]
    show (Ideal.ofBits .f32 0x00000000#32 + _ : EReal) = _
    rw [Ideal.ofBits_zero_f32, zero_add]
    refine Finset.sum_congr rfl fun j _ => ?_
    rw [show idx_main_v59 (ix2 b l) j = ix3 b l j by funext a; match a with | ⟨0, _⟩ => rfl | ⟨1, _⟩ => rfl | ⟨2, _⟩ => rfl]
    rfl
  have hm : val_main_v66 (F := Ideal) x0 x1 x2 x3 x4 x5 (ix3 b l m) = FloatOps.rsqrt (F := Ideal) (φ := .f32)
      (FloatOps.divf (F := Ideal) (φ := .f32) (∑ j : Fin 1024,
      (val_main_v57 (F := Ideal) x0 x1 x2 x3 x4 x5 (ix3 b l j) * val_main_v57 (F := Ideal) x0 x1 x2 x3 x4 x5 (ix3 b l j) : EReal))
        (Ideal.ofBits .f32 0x44800000#32) + Ideal.ofBits .f32 0x358637BD#32 : EReal) := by
    rw [val_main_v66_apply, val_main_v65_apply, val_main_v64_apply, val_main_v62_apply, val_main_v60_apply,
      show idx_main_v60 (idx_main_v66 (ix3 b l m)) = ix2 b l by funext a; match a with | ⟨0, _⟩ => rfl | ⟨1, _⟩ => rfl, hs,
      val_main_v61_apply, val_main_v63_apply]
    rfl
  rw [val_main_v70_apply, val_main_v67_apply, hm, val_main_v69_apply, val_main_v68_apply]
  simp only [v57_apply]
  unfold seqOut rowOut rowNorm
  rw [show idx_main_v68 (idx_main_v69 (ix3 b l m)) = ix1 m by funext a; match a with | ⟨0, _⟩ => rfl]
  rfl

end

end Ffn

end
-- ==== Proof.Seq.lean ====
module

public import proofs.«01_k».proof.Proof.KBlock
public import proofs.«01_k».proof.Proof.FfnRef

/-!
  Blocks inside the sequence: when a block's up products are those of its rows of the sequence, the rows above a row of the
  block, taken from the carried tail where they fall outside, are the rows above it in the sequence.
-/

@[expose] public section

set_option maxRecDepth 16384

noncomputable section

namespace Ffn

open Idealize.ShloMosaic Idealize.ShloMosaic.TcCoe Idealize.ShloMosaic.ValueIdx
open Cert.KernelIdeal
open scoped BigOperators

/-- Row `r` of block `p`, as a row of the sequence. -/
def rowAt (p : Fin 8) (r : Fin 512) : Fin 4096 := ⟨512 * p.val + r.val, by omega⟩

section

variable (a0 : Vec Ideal S16x4096x1024 .f32) (a1 : Vec Ideal S1024 .f32) (a2 : Vec Ideal S1024x5632 .f32)

/-- The block `X` with weights `n2`, `wup` has the up products of block `p` of batch member `b`. -/
def Sits (X : Vec Ideal S1x512x1024 .f32) (n2 : Vec Ideal S1x1024 .f32) (wup : Vec Ideal S1024x5632 .bf16) (b : Fin 16) (p : Fin 8) : Prop :=
  ∀ r, ups X n2 wup r = seqUp a0 a1 a2 b (rowAt p r)

variable {a0 a1 a2} {X : Vec Ideal S1x512x1024 .f32} {n2 : Vec Ideal S1x1024 .f32} {wup : Vec Ideal S1024x5632 .bf16} {b : Fin 16} {p : Fin 8}

/-- At the first block of a sequence the rows above are zero. -/
theorem Sits.above_zero (h : Sits a0 a1 a2 X n2 wup b p) (hp : p.val = 0) (tail : Vec Ideal S8x5632 .f32) (ht : ∀ i, tail i = (0 : EReal))
    (s : ℕ) (hs : s ≤ 2) (r : Fin 512) : above X n2 wup tail s r = seqAbove a0 a1 a2 s b (rowAt p r) := by
  funext q
  unfold above shifted seqAbove
  by_cases hr : r.val < s
  · rw [dif_pos hr, dif_pos (show (rowAt p r).val < s by show 512 * p.val + r.val < s; omega)]
    exact ht _
  · rw [dif_neg hr, dif_neg (show ¬(rowAt p r).val < s by show ¬512 * p.val + r.val < s; omega), h]
    congr 1
    apply Fin.ext
    show 512 * p.val + (r.val - s) = 512 * p.val + r.val - s
    omega

/-- At any other block they are the last rows of the block before. -/
theorem Sits.above_tail (h : Sits a0 a1 a2 X n2 wup b p) {X' : Vec Ideal S1x512x1024 .f32} {n2' : Vec Ideal S1x1024 .f32}
    {wup' : Vec Ideal S1024x5632 .bf16} {p' : Fin 8} (h' : Sits a0 a1 a2 X' n2' wup' b p') (hp : p.val = p'.val + 1)
    (s : ℕ) (hs : s ≤ 2) (r : Fin 512) : above X n2 wup (tailG X' n2' wup') s r = seqAbove a0 a1 a2 s b (rowAt p r) := by
  funext q
  unfold above shifted seqAbove
  rw [dif_neg (show ¬(rowAt p r).val < s by show ¬512 * p.val + r.val < s; omega)]
  by_cases hr : r.val < s
  · rw [dif_pos hr]
    show ups X' n2' wup' ⟨504 + (r.val + 8 - s) % 8, _⟩ q = _
    rw [h']
    congr 1
    apply Fin.ext
    show 512 * p'.val + (504 + (r.val + 8 - s) % 8) = 512 * p.val + r.val - s
    omega
  · rw [dif_neg hr, h]
    congr 1
    apply Fin.ext
    show 512 * p.val + (r.val - s) = 512 * p.val + r.val - s
    omega

end

end Ffn

end
-- ==== Proof.Tie.lean ====
module

public import proofs.«01_k».proof.Proof.Gen.KernelIdeal.Value
public import proofs.«01_k».proof.Proof.Seq

/-!
  The grid put together: what each point takes from the arguments, what the tail holds between points, and the whole
  result array as `seqOut` of the arguments.
-/

@[expose] public section

set_option maxRecDepth 16384

noncomputable section

namespace Ffn

open Idealize.ShloMosaic Idealize.ShloMosaic.TcCoe Idealize.ShloMosaic.ValueIdx
open Cert.KernelIdeal Cert.KernelIdeal.Gen Cert.KernelIdeal.Value
open scoped BigOperators

variable (m : (ℓ : Loc nD τ sig) → Buf (Elt Ideal) ℓ) (c : Dev nD)

/-- The arguments as launched. -/
abbrev A0 : Vec Ideal S16x4096x1024 .f32 := m ((c : Thread nD τ).loc main_arg0)
abbrev A1 : Vec Ideal S1024 .f32 := m ((c : Thread nD τ).loc main_arg1)
abbrev A2 : Vec Ideal S1024x5632 .f32 := m ((c : Thread nD τ).loc main_arg2)
abbrev A3 : Vec Ideal S3x5632 .f32 := m ((c : Thread nD τ).loc main_arg3)
abbrev A4 : Vec Ideal S5632 .f32 := m ((c : Thread nD τ).loc main_arg4)
abbrev A5 : Vec Ideal S2816x1024 .f32 := m ((c : Thread nD τ).loc main_arg5)
abbrev A6 : Vec Ideal S1024 .f32 := m ((c : Thread nD τ).loc main_arg6)

/-! ## The blocks -/

theorem lt128 (t : Fin cfg0.N) : t.val < 128 := lt_of_lt_of_eq t.isLt N_0

/-- The batch member and the row of the sequence a point's row `r` is. -/
def mem (t : Fin cfg0.N) : Fin 16 := ⟨t.val / 8, by have := lt128 t; omega⟩
def pos (t : Fin cfg0.N) (r : Fin 512) : Fin 4096 := ⟨512 * (t.val % 8) + r.val, by omega⟩

theorem idx0 : ∀ t : Fin cfg0.N, win0_0.index t (0 : Fin 3) = t.val / 8 ∧ win0_0.index t (1 : Fin 3) = t.val % 8
    ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

theorem blk0 (t : Fin cfg0.N) (r : Fin 512) : row (iblk m c 0 t) r = seqRow (A0 m c) (mem t) (pos t r) := by
  obtain ⟨e0, e1, e2⟩ := idx0 t
  funext j
  show V m c main_arg0 (((cfg0.win 0).blk t).view.emb (ix3 (0 : Fin 1) r j)) = _
  rw [V_main_arg0]
  unfold seqRow
  congr 1; funext a; apply Fin.ext
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * j.val = j.val; omega

theorem blk1 (t : Fin cfg0.N) : flat (iblk m c 1 t) = vec (A1 m c) := by
  obtain ⟨e0, e1⟩ := idx1 t
  have hV : V m c main_v0 = broadcastInDim S1x1024 ![1] bcast_S1024_S1x1024_1 (A1 m c) := by
    unfold V; after_results
  funext j
  show V m c main_v0 (((cfg0.win 1).blk t).view.emb (ix2 (0 : Fin 1) j)) = _
  rw [hV]
  show A1 m c _ = A1 m c _
  congr 1; funext a; apply Fin.ext
  match a with
  | ⟨0, _⟩ => show win0_1.index t (1 : Fin 2) * 1024 + 1 * j.val = j.val; omega

theorem blk2 (t : Fin cfg0.N) : mat (iblk m c 2 t) = fun i j => A2 m c (ix2 i j) := by
  obtain ⟨e0, e1⟩ := idx2 t
  have hV : V m c main_v1 = (truncf .bf16 (A2 m c : FVec Ideal S1024x5632 .f32) bitsLt_bf16_f32 : FVec Ideal S1024x5632 .bf16) := by
    unfold V; after_results
  funext i j
  show V m c main_v1 (((cfg0.win 2).blk t).view.emb (ix2 i j)) = _
  rw [hV]
  show A2 m c _ = A2 m c _
  congr 1; funext a; apply Fin.ext
  match a with
  | ⟨0, _⟩ => show win0_2.index t (0 : Fin 2) * 1024 + 1 * i.val = i.val; omega
  | ⟨1, _⟩ => show win0_2.index t (1 : Fin 2) * 5632 + 1 * j.val = j.val; omega

theorem blk3 (t : Fin cfg0.N) : mat (iblk m c 3 t) = fun i j => A3 m c (ix2 i j) := by
  obtain ⟨e0, e1⟩ := idx3 t
  funext i j
  show V m c main_arg3 (((cfg0.win 3).blk t).view.emb (ix2 i j)) = _
  rw [V_main_arg3]
  congr 1; funext a; apply Fin.ext
  match a with
  | ⟨0, _⟩ => show win0_3.index t (0 : Fin 2) * 3 + 1 * i.val = i.val; omega
  | ⟨1, _⟩ => show win0_3.index t (1 : Fin 2) * 5632 + 1 * j.val = j.val; omega

theorem blk4 (t : Fin cfg0.N) : flat (iblk m c 4 t) = vec (A4 m c) := by
  obtain ⟨e0, e1⟩ := idx4 t
  have hV : V m c main_v2 = broadcastInDim S1x5632 ![1] bcast_S5632_S1x5632_1 (A4 m c) := by
    unfold V; after_results
  funext j
  show V m c main_v2 (((cfg0.win 4).blk t).view.emb (ix2 (0 : Fin 1) j)) = _
  rw [hV]
  show A4 m c _ = A4 m c _
  congr 1; funext a; apply Fin.ext
  match a with
  | ⟨0, _⟩ => show win0_4.index t (1 : Fin 2) * 5632 + 1 * j.val = j.val; omega

theorem blk5 (t : Fin cfg0.N) : mat (iblk m c 5 t) = fun i j => A5 m c (ix2 i j) := by
  obtain ⟨e0, e1⟩ := idx5 t
  have hV : V m c main_v3 = (truncf .bf16 (A5 m c : FVec Ideal S2816x1024 .f32) bitsLt_bf16_f32 : FVec Ideal S2816x1024 .bf16) := by
    unfold V; after_results
  funext i j
  show V m c main_v3 (((cfg0.win 5).blk t).view.emb (ix2 i j)) = _
  rw [hV]
  show A5 m c _ = A5 m c _
  congr 1; funext a; apply Fin.ext
  match a with
  | ⟨0, _⟩ => show win0_5.index t (0 : Fin 2) * 2816 + 1 * i.val = i.val; omega
  | ⟨1, _⟩ => show win0_5.index t (1 : Fin 2) * 1024 + 1 * j.val = j.val; omega

theorem blk6 (t : Fin cfg0.N) : flat (iblk m c 6 t) = vec (A6 m c) := by
  obtain ⟨e0, e1⟩ := idx6 t
  have hV : V m c main_v4 = broadcastInDim S1x1024 ![1] bcast_S1024_S1x1024_1 (A6 m c) := by
    unfold V; after_results
  funext j
  show V m c main_v4 (((cfg0.win 6).blk t).view.emb (ix2 (0 : Fin 1) j)) = _
  rw [hV]
  show A6 m c _ = A6 m c _
  congr 1; funext a; apply Fin.ext
  match a with
  | ⟨0, _⟩ => show win0_6.index t (1 : Fin 2) * 1024 + 1 * j.val = j.val; omega

theorem ups_blk (t : Fin cfg0.N) (r : Fin 512) :
    ups (iblk m c 0 t) (iblk m c 1 t) (iblk m c 2 t) r = seqUp (A0 m c) (A1 m c) (A2 m c) (mem t) (pos t r) := by
  unfold ups seqUp
  rw [blk0, blk1, blk2]

/-! ## The tail between points -/

/-- After any point the tail holds the up products of the last eight rows of its block. -/
theorem tail_at (t : Fin cfg0.N) :
    (outsAt0 m c t.val t.isLt).2 = tailG (iblk m c 0 t) (iblk m c 1 t) (iblk m c 2 t) := by
  by_cases h0 : t.val % 8 = 0
  · rw [outsAt0_A m c t h0]
    dsimp only
    rw [soutA_eq, canon_tail]
  · rw [outsAt0_B m c t h0]
    dsimp only
    rw [soutB_eq, ← List.append_nil (tailPieces _ _ _), canon_tail]

theorem sits (t : Fin cfg0.N) : Sits (A0 m c) (A1 m c) (A2 m c) (iblk m c 0 t) (iblk m c 1 t) (iblk m c 2 t) (mem t)
    ⟨t.val % 8, by omega⟩ := fun r => ups_blk m c t r

/-- At the first block of a sequence the rows above are zero. -/
theorem above_first (t : Fin cfg0.N) (h0 : t.val % 8 = 0) (s : ℕ) (hs : s ≤ 2) (r : Fin 512) :
    above (iblk m c 0 t) (iblk m c 1 t) (iblk m c 2 t) (k0_pay2 (F := Ideal)) s r
      = seqAbove (A0 m c) (A1 m c) (A2 m c) s (mem t) (pos t r) :=
  (sits m c t).above_zero h0 _ (fun _ => Ideal.ofBits_zero_f32) s hs r

/-- At any other block they are the last rows of the block before. -/
theorem above_next (t t' : Fin cfg0.N) (ht : t.val = t'.val + 1) (h0 : ¬t.val % 8 = 0) (s : ℕ) (hs : s ≤ 2) (r : Fin 512) :
    above (iblk m c 0 t) (iblk m c 1 t) (iblk m c 2 t) (tailG (iblk m c 0 t') (iblk m c 1 t') (iblk m c 2 t')) s r
      = seqAbove (A0 m c) (A1 m c) (A2 m c) s (mem t) (pos t r) := by
  have hm : mem t' = mem t := Fin.ext (by show t'.val / 8 = t.val / 8; omega)
  have hs' := sits m c t'
  rw [hm] at hs'
  exact (sits m c t).above_tail hs' (by show t.val % 8 = t'.val % 8 + 1; omega) s hs r

/-- **The block a point leaves**, in the sequence's terms. -/
theorem block_at (t : Fin cfg0.N) (u : Fin 1) (r : Fin 512) (j : Fin 1024) :
    (outsAt0 m c t.val t.isLt).1 (ix3 u r j)
      = seqOut (A0 m c) (A1 m c) (A2 m c) (A3 m c) (A4 m c) (A5 m c) (A6 m c) (mem t) (pos t r) j := by
  by_cases h0 : t.val % 8 = 0
  · rw [outsAt0_A m c t h0]
    dsimp only
    rw [outA_eq, blockOps_apply, above_first m c t h0 1 (by norm_num), above_first m c t h0 2 (by norm_num),
      ups_blk, blk0, blk3, blk4, blk5, blk6]
    rfl
  · have ht : t.val = (t.val - 1) + 1 := by omega
    have hb := tail_at m c ⟨t.val - 1, lt_of_le_of_lt (Nat.sub_le _ _) t.isLt⟩
    rw [outsAt0_B m c t h0]
    dsimp only
    dsimp only at hb
    rw [outB_eq, hb, blockOps_apply, above_next m c t _ ht h0 1 (by norm_num), above_next m c t _ ht h0 2 (by norm_num),
      ups_blk, blk0, blk3, blk4, blk5, blk6]
    rfl

/-- **The kernel's result array.** -/
theorem G7_apply (b : Fin 16) (l : Fin 4096) (j : Fin 1024) :
    G7 m c (ix3 b l j) = seqOut (A0 m c) (A1 m c) (A2 m c) (A3 m c) (A4 m c) (A5 m c) (A6 m c) b l j := by
  have hp : pt7Of (ix3 b l j) = 8 * b.val + l.val / 512 := by
    show 8 * (b.val / 1 - 0) + 1 * (l.val / 512 - 0) + 1 * (j.val / 1024 - 0) = _
    omega
  have hlt : pt7Of (ix3 b l j) < cfg0.N := by rw [hp, show cfg0.N = 128 from N_0]; omega
  have hl : loc7Of (ix3 b l j) = ix3 (⟨b.val % 1, Nat.mod_lt _ (by norm_num)⟩ : Fin 1) (⟨l.val % 512, Nat.mod_lt _ (by norm_num)⟩ : Fin 512) j := by
    funext a; apply Fin.ext
    match a with
    | ⟨0, _⟩ => rfl
    | ⟨1, _⟩ => rfl
    | ⟨2, _⟩ => show j.val % 1024 = j.val; omega
  unfold G7
  rw [dif_pos hlt, ← outsAt0_sweep m c _ hlt, hl]
  refine (block_at m c ⟨pt7Of (ix3 b l j), hlt⟩ _ _ j).trans ?_
  congr 1
  · apply Fin.ext
    show pt7Of (ix3 b l j) / 8 = b.val
    rw [hp]; omega
  · apply Fin.ext
    show 512 * (pt7Of (ix3 b l j) % 8) + l.val % 512 = l.val
    rw [hp]; omega

end Ffn

end
-- ==== Proof.FirstRead.lean ====
module

public import proofs.«01_k».proof.Proof.Gen.FirstIdeal.Value
public import proofs.«01_k».proof.Proof.KRead

/-!
  The first layer's call: what one grid point's stores leave, as the same composition without the norm that ends the model.
-/

@[expose] public section

set_option maxRecDepth 16384

noncomputable section

namespace Ffn

open Idealize.ShloMosaic Idealize.ShloMosaic.TcCoe Idealize.ShloMosaic.Tactic Idealize.ShloMosaic.ValueIdx
open Cert.FirstIdeal Cert.FirstIdeal.Gen

/-- The block a point of the first layer's call leaves. -/
def plainBlock (X : Vec Ideal S1x512x1024 .f32) (n2 : Vec Ideal S1x1024 .f32) (wup : Vec Ideal S1024x5632 .bf16)
    (cw : Vec Ideal S3x5632 .f32) (cb : Vec Ideal S1x5632 .f32) (wdn : Vec Ideal S2816x1024 .bf16)
    (tail : Vec Ideal S8x5632 .f32) : Vec Ideal S1x512x1024 .f32 :=
  shapeCast S1x512x1024 (sumOps X n2 wup cw cb wdn tail) shapeCasts_S512x1024_S1x512x1024

theorem whole_x (x : Vec Ideal S1x512x1024 .f32) :
    View.ld x (Rect.unit ![0, 0, 0] ![1, 512, 1024] inb_S1x512x1024_S1x512x1024_0_0_0) = x :=
  View.ld_unit_zero (by funext a; match a with | ⟨0, _⟩ => rfl | ⟨1, _⟩ => rfl | ⟨2, _⟩ => rfl) _ _

theorem whole_n (x : Vec Ideal S1x1024 .f32) : View.ld x (Rect.unit ![0, 0] ![1, 1024] inb_S1x1024_S1x1024_0_0) = x :=
  View.ld_unit_zero (by funext a; match a with | ⟨0, _⟩ => rfl | ⟨1, _⟩ => rfl) _ _

section

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x5632 .f32) (harg10 : arg10.IsWhole)
  (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S8x5632 .f32)

theorem firstB_eq (hc0 : ¬cond0_0 i) :
    out0_B_7 c i arg2 harg2 arg3 harg3 arg4 harg4 arg5 harg5 arg6 harg6 arg7 harg7 arg8 harg8 arg9 harg9 arg10 harg10 hc0 x0 x1 x2 x3 x4 x5 x6 xs0 = plainBlock x0 x1 x2 x3 x4 x5 xs0 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  rw [View.canon_unit_zero (by funext a; match a with | ⟨0, _⟩ => rfl | ⟨1, _⟩ => rfl | ⟨2, _⟩ => rfl), whole_x x0, whole_n x1]
  rfl

theorem firstA_eq (hc0 : cond0_0 i) :
    out0_A_7 c i arg2 harg2 arg3 harg3 arg4 harg4 arg5 harg5 arg6 harg6 arg7 harg7 arg8 harg8 arg9 harg9 arg10 harg10 hc0 x0 x1 x2 x3 x4 x5 x6 = plainBlock x0 x1 x2 x3 x4 x5 (k0_pay3 (F := Ideal)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp (disch := decide) only [↓View.readCov_skip, ↓View.readCov_fill, View.readAt_eq_ld, harg2.read_unread, harg3.read_unread, harg4.read_unread, harg5.read_unread, harg6.read_unread, harg7.read_unread, harg8.read_unread]
  rw [View.canon_unit_zero (by funext a; match a with | ⟨0, _⟩ => rfl | ⟨1, _⟩ => rfl | ⟨2, _⟩ => rfl), whole_x x0, whole_n x1]
  rfl

theorem firstTailB_eq (hc0 : ¬cond0_0 i) :
    sout0_B_0 c i arg2 harg2 arg3 harg3 arg4 harg4 arg5 harg5 arg6 harg6 arg7 harg7 arg8 harg8 arg9 harg9 arg10 harg10 hc0 x0 x1 x2 x3 x4 x5 x6 xs0 = View.canon (tailPieces x0 x1 x2) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  rw [whole_x x0, whole_n x1]
  rfl

theorem firstTailA_eq (hc0 : cond0_0 i) :
    sout0_A_0 c i arg2 harg2 arg3 harg3 arg4 harg4 arg5 harg5 arg6 harg6 arg7 harg7 arg8 harg8 arg9 harg9 arg10 harg10 hc0 x0 x1 x2 x3 x4 x5 x6 = View.canon (tailPieces x0 x1 x2
        ++ [⟨Rect.unit (s := S8x5632) ![0, 0] ![8, 5632] inb_S8x5632_S8x5632_0_0, k0_pay3 (F := Ideal)⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp (disch := decide) only [↓View.readCov_skip, ↓View.readCov_fill, View.readAt_eq_ld, harg2.read_unread, harg3.read_unread, harg4.read_unread, harg5.read_unread, harg6.read_unread, harg7.read_unread, harg8.read_unread]
  rw [whole_x x0, whole_n x1]
  rfl

end

end Ffn

end
-- ==== Proof.FirstTie.lean ====
module

public import proofs.«01_k».proof.Proof.Gen.FirstIdeal.Value
public import proofs.«01_k».proof.Proof.FirstRead
public import proofs.«01_k».proof.Proof.Gen.FirstReferenceIdeal.Read
public import proofs.«01_k».proof.Proof.Seq

/-!
  The first layer's call: its grid put together, and its result array and the reference's as the same rows.
-/

@[expose] public section

set_option maxRecDepth 16384

noncomputable section

namespace Ffn.First

open Idealize.ShloMosaic Idealize.ShloMosaic.TcCoe Idealize.ShloMosaic.ValueIdx
open Cert.FirstIdeal Cert.FirstIdeal.Gen Cert.FirstIdeal.Value
open scoped BigOperators

variable (m : (ℓ : Loc nD τ sig) → Buf (Elt Ideal) ℓ) (c : Dev nD)

/-- The arguments as launched. -/
abbrev A0 : Vec Ideal S16x4096x1024 .f32 := m ((c : Thread nD τ).loc main_arg0)
abbrev A1 : Vec Ideal S1024 .f32 := m ((c : Thread nD τ).loc main_arg1)
abbrev A2 : Vec Ideal S1024x5632 .f32 := m ((c : Thread nD τ).loc main_arg2)
abbrev A3 : Vec Ideal S3x5632 .f32 := m ((c : Thread nD τ).loc main_arg3)
abbrev A4 : Vec Ideal S5632 .f32 := m ((c : Thread nD τ).loc main_arg4)
abbrev A5 : Vec Ideal S2816x1024 .f32 := m ((c : Thread nD τ).loc main_arg5)

/-! ## The blocks -/

theorem lt128 (t : Fin cfg0.N) : t.val < 128 := lt_of_lt_of_eq t.isLt N_0

/-- The batch member a point works on, and its block of the sequence. -/
def mem (t : Fin cfg0.N) : Fin 16 := ⟨t.val / 8, by have := lt128 t; omega⟩
def blkNo (t : Fin cfg0.N) : Fin 8 := ⟨t.val % 8, by omega⟩

theorem idx0 : ∀ t : Fin cfg0.N, win0_0.index t (0 : Fin 3) = t.val / 8 ∧ win0_0.index t (1 : Fin 3) = t.val % 8
    ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

theorem blk0 (t : Fin cfg0.N) (r : Fin 512) : row (iblk m c 0 t) r = seqRow (A0 m c) (mem t) (rowAt (blkNo t) r) := by
  obtain ⟨e0, e1, e2⟩ := idx0 t
  funext j
  show V m c main_arg0 (((cfg0.win 0).blk t).view.emb (ix3 (0 : Fin 1) r j)) = _
  rw [V_main_arg0]
  unfold seqRow
  congr 1; funext a; apply Fin.ext
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * j.val = j.val; omega

theorem blk1 (t : Fin cfg0.N) : flat (iblk m c 1 t) = vec (A1 m c) := by
  obtain ⟨e0, e1⟩ := idx1 t
  have hV : V m c main_v0 = broadcastInDim S1x1024 ![1] bcast_S1024_S1x1024_1 (A1 m c) := by
    unfold V; after_results
  funext j
  show V m c main_v0 (((cfg0.win 1).blk t).view.emb (ix2 (0 : Fin 1) j)) = _
  rw [hV]
  show A1 m c _ = A1 m c _
  congr 1; funext a; apply Fin.ext
  match a with
  | ⟨0, _⟩ => show win0_1.index t (1 : Fin 2) * 1024 + 1 * j.val = j.val; omega

theorem blk2 (t : Fin cfg0.N) : mat (iblk m c 2 t) = fun i j => A2 m c (ix2 i j) := by
  obtain ⟨e0, e1⟩ := idx2 t
  have hV : V m c main_v1 = (truncf .bf16 (A2 m c : FVec Ideal S1024x5632 .f32) bitsLt_bf16_f32 : FVec Ideal S1024x5632 .bf16) := by
    unfold V; after_results
  funext i j
  show V m c main_v1 (((cfg0.win 2).blk t).view.emb (ix2 i j)) = _
  rw [hV]
  show A2 m c _ = A2 m c _
  congr 1; funext a; apply Fin.ext
  match a with
  | ⟨0, _⟩ => show win0_2.index t (0 : Fin 2) * 1024 + 1 * i.val = i.val; omega
  | ⟨1, _⟩ => show win0_2.index t (1 : Fin 2) * 5632 + 1 * j.val = j.val; omega

theorem blk3 (t : Fin cfg0.N) : mat (iblk m c 3 t) = fun i j => A3 m c (ix2 i j) := by
  obtain ⟨e0, e1⟩ := idx3 t
  funext i j
  show V m c main_arg3 (((cfg0.win 3).blk t).view.emb (ix2 i j)) = _
  rw [V_main_arg3]
  congr 1; funext a; apply Fin.ext
  match a with
  | ⟨0, _⟩ => show win0_3.index t (0 : Fin 2) * 3 + 1 * i.val = i.val; omega
  | ⟨1, _⟩ => show win0_3.index t (1 : Fin 2) * 5632 + 1 * j.val = j.val; omega

theorem blk4 (t : Fin cfg0.N) : flat (iblk m c 4 t) = vec (A4 m c) := by
  obtain ⟨e0, e1⟩ := idx4 t
  have hV : V m c main_v2 = broadcastInDim S1x5632 ![1] bcast_S5632_S1x5632_1 (A4 m c) := by
    unfold V; after_results
  funext j
  show V m c main_v2 (((cfg0.win 4).blk t).view.emb (ix2 (0 : Fin 1) j)) = _
  rw [hV]
  show A4 m c _ = A4 m c _
  congr 1; funext a; apply Fin.ext
  match a with
  | ⟨0, _⟩ => show win0_4.index t (1 : Fin 2) * 5632 + 1 * j.val = j.val; omega

theorem blk5 (t : Fin cfg0.N) : mat (iblk m c 5 t) = fun i j => A5 m c (ix2 i j) := by
  obtain ⟨e0, e1⟩ := idx5 t
  have hV : V m c main_v3 = (truncf .bf16 (A5 m c : FVec Ideal S2816x1024 .f32) bitsLt_bf16_f32 : FVec Ideal S2816x1024 .bf16) := by
    unfold V; after_results
  funext i j
  show V m c main_v3 (((cfg0.win 5).blk t).view.emb (ix2 i j)) = _
  rw [hV]
  show A5 m c _ = A5 m c _
  congr 1; funext a; apply Fin.ext
  match a with
  | ⟨0, _⟩ => show win0_5.index t (0 : Fin 2) * 2816 + 1 * i.val = i.val; omega
  | ⟨1, _⟩ => show win0_5.index t (1 : Fin 2) * 1024 + 1 * j.val = j.val; omega

theorem sits (t : Fin cfg0.N) :
    Sits (A0 m c) (A1 m c) (A2 m c) (iblk m c 0 t) (iblk m c 1 t) (iblk m c 2 t) (mem t) (blkNo t) := by
  intro r
  unfold ups seqUp
  rw [blk0, blk1, blk2]

/-- After any point the tail holds the up products of the last eight rows of its block. -/
theorem tail_at (t : Fin cfg0.N) :
    (outsAt0 m c t.val t.isLt).2 = tailG (iblk m c 0 t) (iblk m c 1 t) (iblk m c 2 t) := by
  by_cases h0 : t.val % 8 = 0
  · rw [outsAt0_A m c t h0]
    dsimp only
    rw [firstTailA_eq, canon_tail]
  · rw [outsAt0_B m c t h0]
    dsimp only
    rw [firstTailB_eq, ← List.append_nil (tailPieces _ _ _), canon_tail]

/-- The result at `(b, l, j)`: the row plus the gated up products sent down. -/
def out (x0 : Vec Ideal S16x4096x1024 .f32) (x1 : Vec Ideal S1024 .f32) (x2 : Vec Ideal S1024x5632 .f32) (x3 : Vec Ideal S3x5632 .f32)
    (x4 : Vec Ideal S5632 .f32) (x5 : Vec Ideal S2816x1024 .f32) (b : Fin 16) (l : Fin 4096) (j : Fin 1024) : EReal :=
  seqRow x0 b l j + ∑ k : Fin 2816, gateAt (seqUp x0 x1 x2 b l) (seqAbove x0 x1 x2 1 b l) (seqAbove x0 x1 x2 2 b l)
    (fun i j => x3 (ix2 i j)) (vec x4) k * x5 (ix2 k j)

/-- A point's block at an index, given what lies above each of its rows. -/
theorem plain_at (t : Fin cfg0.N) (tail : Vec Ideal S8x5632 .f32)
    (ht : ∀ s ≤ 2, ∀ r, above (iblk m c 0 t) (iblk m c 1 t) (iblk m c 2 t) tail s r
      = seqAbove (A0 m c) (A1 m c) (A2 m c) s (mem t) (rowAt (blkNo t) r)) (u : Fin 1) (r : Fin 512) (j : Fin 1024) :
    plainBlock (iblk m c 0 t) (iblk m c 1 t) (iblk m c 2 t) (iblk m c 3 t) (iblk m c 4 t) (iblk m c 5 t) tail (ix3 u r j)
      = out (A0 m c) (A1 m c) (A2 m c) (A3 m c) (A4 m c) (A5 m c) (mem t) (rowAt (blkNo t) r) j := by
  unfold plainBlock
  rw [shapeCast_ab_1ab_apply, sumOps_apply, ht 1 (by norm_num), ht 2 (by norm_num), sits m c t r, blk0, blk3, blk4, blk5]
  rfl

/-- **The block a point leaves**, in the sequence's terms. -/
theorem block_at (t : Fin cfg0.N) (u : Fin 1) (r : Fin 512) (j : Fin 1024) :
    (outsAt0 m c t.val t.isLt).1 (ix3 u r j)
      = out (A0 m c) (A1 m c) (A2 m c) (A3 m c) (A4 m c) (A5 m c) (mem t) (rowAt (blkNo t) r) j := by
  by_cases h0 : t.val % 8 = 0
  · rw [outsAt0_A m c t h0]
    dsimp only
    rw [firstA_eq]
    exact plain_at m c t _ (fun s hs r => (sits m c t).above_zero h0 _ (fun _ => Ideal.ofBits_zero_f32) s hs r) u r j
  · have hb := tail_at m c ⟨t.val - 1, lt_of_le_of_lt (Nat.sub_le _ _) t.isLt⟩
    have hm : mem ⟨t.val - 1, lt_of_le_of_lt (Nat.sub_le _ _) t.isLt⟩ = mem t :=
      Fin.ext (by show (t.val - 1) / 8 = t.val / 8; omega)
    have hs' := sits m c ⟨t.val - 1, lt_of_le_of_lt (Nat.sub_le _ _) t.isLt⟩
    rw [hm] at hs'
    rw [outsAt0_B m c t h0]
    dsimp only
    dsimp only at hb
    rw [firstB_eq, hb]
    exact plain_at m c t _ (fun s hs r => (sits m c t).above_tail hs' (by show t.val % 8 = (t.val - 1) % 8 + 1; omega) s hs r) u r j

/-- **The kernel's result array.** -/
theorem G7_apply (b : Fin 16) (l : Fin 4096) (j : Fin 1024) :
    G7 m c (ix3 b l j) = out (A0 m c) (A1 m c) (A2 m c) (A3 m c) (A4 m c) (A5 m c) b l j := by
  have hp : pt7Of (ix3 b l j) = 8 * b.val + l.val / 512 := by
    show 8 * (b.val / 1 - 0) + 1 * (l.val / 512 - 0) + 1 * (j.val / 1024 - 0) = _
    omega
  have hlt : pt7Of (ix3 b l j) < cfg0.N := by rw [hp, show cfg0.N = 128 from N_0]; omega
  have hl : loc7Of (ix3 b l j) = ix3 (⟨b.val % 1, Nat.mod_lt _ (by norm_num)⟩ : Fin 1) (⟨l.val % 512, Nat.mod_lt _ (by norm_num)⟩ : Fin 512) j := by
    funext a; apply Fin.ext
    match a with
    | ⟨0, _⟩ => rfl
    | ⟨1, _⟩ => rfl
    | ⟨2, _⟩ => show j.val % 1024 = j.val; omega
  unfold G7
  rw [dif_pos hlt, ← outsAt0_sweep m c _ hlt, hl]
  refine (block_at m c ⟨pt7Of (ix3 b l j), hlt⟩ _ _ j).trans ?_
  congr 1
  · apply Fin.ext
    show pt7Of (ix3 b l j) / 8 = b.val
    rw [hp]; omega
  · apply Fin.ext
    show 512 * (pt7Of (ix3 b l j) % 8) + l.val % 512 = l.val
    rw [hp]; omega

/-- **The reference's result**: its operations are the first ones of the last layer's reference. -/
theorem ref_apply (x0 : Vec Ideal S16x4096x1024 .f32) (x1 : Vec Ideal S1024 .f32) (x2 : Vec Ideal S1024x5632 .f32) (x3 : Vec Ideal S3x5632 .f32)
    (x4 : Vec Ideal S5632 .f32) (x5 : Vec Ideal S2816x1024 .f32) (b : Fin 16) (l : Fin 4096) (j : Fin 1024) :
    Cert.FirstReferenceIdeal.Read.val_main_v57 (F := Ideal) x0 x1 x2 x3 x4 x5 (ix3 b l j) = out x0 x1 x2 x3 x4 x5 b l j := by
  have e : Cert.FirstReferenceIdeal.Read.val_main_v57 (F := Ideal) x0 x1 x2 x3 x4 x5
      = Cert.ReferenceIdeal.Read.val_main_v57 (F := Ideal) x0 x1 x2 x3 x4 x5 := rfl
  exact (congrFun e _).trans (v57_apply x0 x1 x2 x3 x4 x5 b l j)

end Ffn.First

end
-- ==== Proof.MixerIdealBody.lean ====
/- The body of the mixer's kernel, run once at any grid point over memrefs whose contents nobody names: it ends, and
   every memref it was handed is still owned. The one branch of the body clears the carried scratch at the first chunk
   of a row; both of its sides are run. -/
module

public import proofs.«01_k».proof.Proof.Gen.MixerIdeal.Frame.Runs

@[expose] public section

set_option maxRecDepth 16384

noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixerIdeal.Gen

variable {F : FTy → Type} [FloatOps F]

local notation "𝕄" => MT nD τ sig Unit (Elt F) ℕ (UR sig nD τ) ℕ

/-- The core owns the whole of `M`, at contents nobody names. -/
def Held (c : Dev nD) {s : Shape} {e : EltTy} (M : Memref sig .tc .vmem s e) : sProp 𝕄 :=
  iprop(∃ f, M.view.loc (c : Thread nD τ) ↦[M.view.set]{fullShare} f)

/-- The same, said of what the memref reads. -/
theorem held_eq (c : Dev nD) {s : Shape} {e : EltTy} (M : Memref sig .tc .vmem s e) :
    (iprop(∃ d, owns (c : Thread nD τ) M fullShare d) : sProp 𝕄) = Held c M := by
  have h₁ : (iprop(∃ d, owns (c : Thread nD τ) M fullShare d) : sProp 𝕄) ⊢ Held c M := by
    unfold Held owns
    iintro ⟨%d, %f, -, H⟩; iexists f; iexact H
  have h₂ : (Held c M : sProp 𝕄) ⊢ iprop(∃ d, owns (c : Thread nD τ) M fullShare d) := by
    unfold Held owns
    iintro ⟨%f, H⟩; iexists (M.view.read (Elt F) f); iexists f; isplitr; · ipureintro; rfl
    iexact H
  exact BI.Entails.antisymm h₁ h₂

variable (c : Dev nD) (i : grid0.Coords)
  (arg2 : Memref sig .tc .vmem S1x512x1024 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x1024 .f32) (harg5 : arg5.IsWhole)
  (arg6 : Memref sig .tc .vmem S1024x3584 .bf16) (harg6 : arg6.IsWhole)
  (arg7 : Memref sig .tc .vmem S64x256 .f32) (harg7 : arg7.IsWhole)
  (arg8 : Memref sig .tc .vmem S64x256 .f32) (harg8 : arg8.IsWhole)
  (arg9 : Memref sig .tc .vmem S64x256 .f32) (harg9 : arg9.IsWhole)
  (arg10 : Memref sig .tc .vmem S1x256 .f32) (harg10 : arg10.IsWhole)
  (arg11 : Memref sig .tc .vmem S256x256 .bf16) (harg11 : arg11.IsWhole)
  (arg12 : Memref sig .tc .vmem S256x256 .bf16) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .bf16) (harg15 : arg15.IsWhole)
  (arg16 : Memref sig .tc .vmem S4x1024 .f32) (harg16 : arg16.IsWhole)
  (arg17 : Memref sig .tc .vmem S1x1024 .f32) (harg17 : arg17.IsWhole)
  (arg18 : Memref sig .tc .vmem S1x512 .f32) (harg18 : arg18.IsWhole)
  (arg19 : Memref sig .tc .vmem S1x512 .f32) (harg19 : arg19.IsWhole)
  (arg20 : Memref sig .tc .vmem S1x512 .f32) (harg20 : arg20.IsWhole)
  (arg21 : Memref sig .tc .vmem S1x512 .f32) (harg21 : arg21.IsWhole)
  (arg22 : Memref sig .tc .vmem S4x256 .f32) (harg22 : arg22.IsWhole)
  (arg23 : Memref sig .tc .vmem S1x256 .f32) (harg23 : arg23.IsWhole)
  (arg24 : Memref sig .tc .vmem S256x512 .bf16) (harg24 : arg24.IsWhole)
  (arg25 : Memref sig .tc .vmem S1x512 .f32) (harg25 : arg25.IsWhole)
  (arg26 : Memref sig .tc .vmem S1x256 .f32) (harg26 : arg26.IsWhole)
  (arg27 : Memref sig .tc .vmem S1024x1024 .bf16) (harg27 : arg27.IsWhole)
  (arg28 : Memref sig .tc .vmem S1x512x1024 .f32) (harg28 : arg28.IsWhole)
  (arg29 : Memref sig .tc .vmem S256x256 .f32) (harg29 : arg29.IsWhole)
  (arg30 : Memref sig .tc .vmem S2x128x256 .f32) (harg30 : arg30.IsWhole)
  (arg31 : Memref sig .tc .vmem S8x256 .f32) (harg31 : arg31.IsWhole)
  (arg32 : Memref sig .tc .vmem S8x1024 .f32) (harg32 : arg32.IsWhole)
  (arg33 : Memref sig .tc .vmem S8x256 .f32) (harg33 : arg33.IsWhole)

/-- Everything the body is handed: the twenty-six inputs, the output and the five scratch buffers. -/
def handed : sProp 𝕄 :=
  iprop((Held c arg2 ∗ Held c arg3 ∗ Held c arg4 ∗ Held c arg5 ∗ Held c arg6 ∗ Held c arg7 ∗ Held c arg8 ∗
      Held c arg9 ∗ Held c arg10 ∗ Held c arg11 ∗ Held c arg12 ∗ Held c arg13 ∗ Held c arg14 ∗ Held c arg15 ∗
      Held c arg16 ∗ Held c arg17 ∗ Held c arg18 ∗ Held c arg19 ∗ Held c arg20 ∗ Held c arg21 ∗ Held c arg22 ∗
      Held c arg23 ∗ Held c arg24 ∗ Held c arg25 ∗ Held c arg26 ∗ Held c arg27 ∗ Held c arg28)
    ∗ (Held c arg29 ∗ Held c arg30 ∗ Held c arg31 ∗ Held c arg32 ∗ Held c arg33))

variable {c i arg2 harg2 arg3 harg3 arg4 harg4 arg5 harg5 arg6 harg6 arg7 harg7 arg8 harg8 arg9 harg9 arg10 harg10
  arg11 harg11 arg12 harg12 arg13 harg13 arg14 harg14 arg15 harg15 arg16 harg16 arg17 harg17 arg18 harg18
  arg19 harg19 arg20 harg20 arg21 harg21 arg22 harg22 arg23 harg23 arg24 harg24 arg25 harg25 arg26 harg26
  arg27 harg27 arg28 harg28 arg29 harg29 arg30 harg30 arg31 harg31 arg32 harg32 arg33 harg33}

set_option maxHeartbeats 40000000 in
/-- The body runs and hands everything back. -/
theorem run_body {K : PUnit → sProp 𝕄} :
    iprop(handed (F := F) c arg2 arg3 arg4 arg5 arg6 arg7 arg8 arg9 arg10 arg11 arg12 arg13 arg14 arg15 arg16 arg17 arg18
        arg19 arg20 arg21 arg22 arg23 arg24 arg25 arg26 arg27 arg28 arg29 arg30 arg31 arg32 arg33
      ∗ (handed (F := F) c arg2 arg3 arg4 arg5 arg6 arg7 arg8 arg9 arg10 arg11 arg12 arg13 arg14 arg15 arg16 arg17 arg18
        arg19 arg20 arg21 arg22 arg23 arg24 arg25 arg26 arg27 arg28 arg29 arg30 arg31 arg32 arg33
        -∗ K ⟨⟩))
    ⊢ wp frame (wpE (defs₀ (F := F)) Variants.none c none) Set.univ
        (cc0_mixer i arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18 arg19 harg19 arg20 harg20 arg21 harg21 arg22 harg22 arg23 harg23 arg24 harg24 arg25 harg25
          arg26 harg26 arg27 harg27 arg28 harg28 arg29 harg29 arg30 harg30 arg31 harg31 arg32 harg32 arg33 harg33) K := by
  unfold handed
  simp only [cc0_mixer_eq_skeleton]; unfold cc0_mixer_skel
  simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton]
  unfold Held
  iintro ⟨⟨⟨⟨%f2, H2⟩, ⟨%f3, H3⟩, ⟨%f4, H4⟩, ⟨%f5, H5⟩, ⟨%f6, H6⟩,
    ⟨%f7, H7⟩, ⟨%f8, H8⟩, ⟨%f9, H9⟩, ⟨%f10, H10⟩, ⟨%f11, H11⟩,
    ⟨%f12, H12⟩, ⟨%f13, H13⟩, ⟨%f14, H14⟩, ⟨%f15, H15⟩, ⟨%f16, H16⟩,
    ⟨%f17, H17⟩, ⟨%f18, H18⟩, ⟨%f19, H19⟩, ⟨%f20, H20⟩, ⟨%f21, H21⟩,
    ⟨%f22, H22⟩, ⟨%f23, H23⟩, ⟨%f24, H24⟩, ⟨%f25, H25⟩, ⟨%f26, H26⟩,
    ⟨%f27, H27⟩, ⟨%f28, H28⟩⟩,
    ⟨⟨%f29, H29⟩, ⟨%f30, H30⟩, ⟨%f31, H31⟩,
    ⟨%f32, H32⟩, ⟨%f33, H33⟩⟩⟩, Hk⟩
  by_cases hc0 : cond0_0 i
  all_goals
    sl_exec (disch := first | sl_exact hc0)
    sl_step
    iapply Hk
    isplitl [H2 H3 H4 H5 H6 H7 H8 H9 H10 H11 H12 H13 H14 H15 H16 H17 H18 H19 H20 H21 H22 H23 H24 H25 H26 H27 H28]
    · isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      iexists _; iexact H28
    isplitl [H29]; · iexists _; iexact H29
    isplitl [H30]; · iexists _; iexact H30
    isplitl [H31]; · iexists _; iexact H31
    isplitl [H32]; · iexists _; iexact H32
    iexists _; iexact H33

end Cert.MixerIdeal.Body

end
-- ==== Proof.MixerIdealFrame.lean ====
/- The frame of the mixer's launch. Nothing that a grid point leaves in a staging buffer is named: an input array
   is kept because no point writes it back, and of the output array nothing is said. -/
module

public import proofs.«01_k».proof.Proof.MixerIdealBody

@[expose] public section

set_option maxRecDepth 16384

noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MixerIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def forgotten : Fin cfg0.W → Bool := fun _ => true

/-- The launch as the library is told of it: the arrays as the region finds them, the scratch at any contents
    between points, nothing owed. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q _ := fullShare
  owed _ := 0

/-- What the body has before and after point `t`. -/
def around (c : Dev nD) (t : Fin cfg0.N) : sProp 𝕄 :=
  iprop(Pipeline.ΦA spec0 c ∗ (dats m 0 c).owesAt () t.castSucc
    ∗ bigSep Finset.univ fun w : Fin cfg0.W =>
      iprop(∃ X, owns (c : Thread nD τ) ((cfg0.win w).stage (cfg0.slots t w)) fullShare X))

/-- The body at point `t`, over the staging buffers the pipeline hands it. -/
theorem sound_body (c : Dev nD) (t : Fin cfg0.N) :
    around m c t ⊢ wp frame (wpE (defs₀ (F := F)) Variants.none c none) Set.univ (bodyAt0 t)
      (fun _ => around m c t) := by
  unfold around bodyAt0
  rw [bigSep_W0, PhiA0_eq]
  simp only [held_eq]
  iintro ⟨⟨HS, Hg⟩, Ho, HW⟩
  iapply (run_body (F := F))
  isplitl [HW HS]
  · unfold handed
    isplitl [HW]; · iexact HW
    iexact HS
  unfold handed
  iintro ⟨HW, HS⟩
  isplitl [HS Hg]
  · isplitl [HS]; · iexact HS
    iexact Hg
  isplitl [Ho]; · iexact Ho
  iexact HW

/-- The same in the form the library asks for. -/
theorem body_obligation (c : Dev nD) :
    BodyObligation (dats (F := F) m 0 c) (defs₀ (F := F)) Variants.none () Set.univ forgotten := fun t => by
  have hrow : defs₀ (F := F) .tc cfg0.body (cfg0.bodyArgs t (cfg0.slots t)) = bodyAt0 t := by
    unfold defs₀; rw [Defs.onTc_tc]
  rw [hrow]
  exact triple_restated (sound_body m c t) rfl .rfl fun _ => .rfl

set_option maxHeartbeats 4000000 in
set_option backward.isDefEq.respectTransparency.types false in
/-- The launch ends with every semaphore at zero, every input array as the region found it, and every buffer outside
    the pipeline as the region found it. -/
theorem run_main : θ_run defs (onTc (τ := τ) (main (F := F))) (s₀ m ρ)
    (fun r => Pipeline.RDat.FramePost (cfgs 0) (fun c => (dats m 0 c).toRForget forgotten) (V m) r
      ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The buffer `b` holds at `r` what it held at launch. -/
abbrev Same (r : PUnit × MemSt nD τ sig (Elt F)) (c : Dev nD) (b : Ref sig .tc) : Prop :=
  r.2.mem ((c.tc : Thread nD τ).loc b) = m ((c.tc : Thread nD τ).loc b)

set_option maxHeartbeats 4000000 in
/-- The frame: the launch ends, with every argument as it was and every semaphore at zero. -/
theorem frame : θ_run defs (onTc (τ := τ) (main (F := F))) ⟨m, fun _ => 0, ρ⟩ (fun r => (∀ c : Dev nD,
      Same m r c main_arg0 ∧ Same m r c main_arg1 ∧ Same m r c main_arg2 ∧ Same m r c main_arg3 ∧
      Same m r c main_arg4 ∧ Same m r c main_arg5 ∧ Same m r c main_arg6 ∧ Same m r c main_arg7 ∧
      Same m r c main_arg8 ∧ Same m r c main_arg9 ∧ Same m r c main_arg10 ∧ Same m r c main_arg11 ∧
      Same m r c main_arg12 ∧ Same m r c main_arg13 ∧ Same m r c main_arg14 ∧ Same m r c main_arg15 ∧
      Same m r c main_arg16)
      ∧ r.2.sem = fun _ => 0) := by
  refine (θ_run defs _ _).mono (fun r h => ⟨fun c => ?_, h.2⟩) (run_main m ρ)
  have staged (w : Fin cfg0.W) (hin : (cfg0.win w).isOut = false) := h.1.arr_in c w hin
  have rest (b : Ref sig .tc) (h₁) (h₂) := (h.1 c).2 b (Pipeline.mem_restRefs_of b h₁ h₂)
  exact ⟨(staged 0 rfl).trans (V_main_arg0 m c),
      (rest main_arg1 (by decide) (by decide)).trans (V_main_arg1 m c),
      (rest main_arg2 (by decide) (by decide)).trans (V_main_arg2 m c),
      (staged 14 rfl).trans (V_main_arg3 m c),
      (rest main_arg4 (by decide) (by decide)).trans (V_main_arg4 m c),
      (rest main_arg5 (by decide) (by decide)).trans (V_main_arg5 m c),
      (rest main_arg6 (by decide) (by decide)).trans (V_main_arg6 m c),
      (rest main_arg7 (by decide) (by decide)).trans (V_main_arg7 m c),
      (rest main_arg8 (by decide) (by decide)).trans (V_main_arg8 m c),
      (staged 20 rfl).trans (V_main_arg9 m c),
      (rest main_arg10 (by decide) (by decide)).trans (V_main_arg10 m c),
      (rest main_arg11 (by decide) (by decide)).trans (V_main_arg11 m c),
      (rest main_arg12 (by decide) (by decide)).trans (V_main_arg12 m c),
      (rest main_arg13 (by decide) (by decide)).trans (V_main_arg13 m c),
      (rest main_arg14 (by decide) (by decide)).trans (V_main_arg14 m c),
      (rest main_arg15 (by decide) (by decide)).trans (V_main_arg15 m c),
      (rest main_arg16 (by decide) (by decide)).trans (V_main_arg16 m c)⟩

end Cert.MixerIdeal.Body

end
-- ==== Proof.lean ====
/-
  The proof of the claims. The kernels' results come from their generated runs, read through the grid by Proof/Tie.lean and
  Proof/FirstTie.lean; the references' from theirs, read by Proof/FfnRef.lean. For the last layer both sides are `Ffn.seqOut` of the
  same arguments, for the first layer `Ffn.First.out`. The mixer's two frames are Proof/MixerFrame.lean and
  Proof/MixerIdealFrame.lean.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.First.Frame
public import proofs.«01_k».proof.Proof.Gen.FirstIdeal.Value
public import proofs.«01_k».proof.Proof.Gen.FirstReferenceIdeal.Run
public import proofs.«01_k».proof.Proof.Gen.FirstReferenceIdeal.Read
public import proofs.«01_k».proof.Proof.Tie
public import proofs.«01_k».proof.Proof.FirstTie
public import proofs.«01_k».proof.Proof.MixerFrame
public import proofs.«01_k».proof.Proof.MixerIdealFrame
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.ValueIdx

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v70_eq]
  obtain ⟨h0, h1, h2, h3, h4, h5, h6⟩ := hagree c
  rw [h0, h1, h2, h3, h4, h5, h6]
  funext i
  obtain ⟨b, l, j, rfl⟩ : ∃ (b : Fin 16) (l : Fin 4096) (j : Fin 1024), i = ix3 b l j := ⟨i 0, i 1, i 2, eq_ix3 i⟩
  exact (Ffn.v70_apply _ _ _ _ _ _ _ b l j).trans (Ffn.G7_apply m c b l j).symm

theorem quiescent_FirstReferenceIdeal : quiescent_FirstReferenceIdeal := fun m ρ _ =>
  (θ_run Cert.FirstReferenceIdeal.defs _ _).mono (fun r h => ⟨fun c => (h c).2, sem_eq_zero_of_no_sems (by decide) r.2⟩)
    (Cert.FirstReferenceIdeal.Value.run (F := Ideal) m ρ)

theorem algebraic_FirstIdeal_FirstReferenceIdeal : algebraic_FirstIdeal_FirstReferenceIdeal := by
  intro m ρ m' ρ' _ hagree
  refine ⟨_, Cert.FirstIdeal.Value.run (F := Ideal) m ρ, ?_⟩
  refine (θ_run Cert.FirstReferenceIdeal.defs _ _).mono (fun _ h c => ⟨?_, (h c).2⟩) (Cert.FirstReferenceIdeal.Value.run (F := Ideal) m' ρ')
  rw [(h c).1, Cert.FirstReferenceIdeal.Read.val_main_v57_eq]
  obtain ⟨h0, h1, h2, h3, h4, h5, _⟩ := hagree c
  rw [h0, h1, h2, h3, h4, h5]
  funext i
  obtain ⟨b, l, j, rfl⟩ : ∃ (b : Fin 16) (l : Fin 4096) (j : Fin 1024), i = ix3 b l j := ⟨i 0, i 1, i 2, eq_ix3 i⟩
  exact (Ffn.First.ref_apply _ _ _ _ _ _ b l j).trans (Ffn.First.G7_apply m c b l j).symm

theorem claim : Cert.Claim := ⟨Cert.Kernel.Gen.facts, Cert.KernelIdeal.Gen.facts, Cert.ReferenceIdeal.Gen.facts,
  Cert.First.Gen.facts, Cert.FirstIdeal.Gen.facts, Cert.FirstReferenceIdeal.Gen.facts,
  Cert.Mixer.Gen.facts, Cert.MixerIdeal.Gen.facts,
  fun m ρ _ => Cert.Kernel.Gen.frame m ρ, fun m ρ _ => Cert.KernelIdeal.Gen.frame m ρ, quiescent_ReferenceIdeal,
  fun m ρ _ => Cert.First.Gen.frame m ρ, fun m ρ _ => Cert.FirstIdeal.Gen.frame m ρ, quiescent_FirstReferenceIdeal,
  fun m ρ _ => Cert.Mixer.Body.frame m ρ, fun m ρ _ => Cert.MixerIdeal.Body.frame m ρ,
  (trivial : preserves_Kernel_KernelIdeal), algebraic_KernelIdeal_ReferenceIdeal,
  (trivial : preserves_First_FirstIdeal), algebraic_FirstIdeal_FirstReferenceIdeal,
  (trivial : preserves_Mixer_MixerIdeal)⟩

end Cert.Proof

end
